-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_representable [hPre_representable : Cert.Pre_representable.Facts] (m : (ℓ : Loc Cert.KernelIdeal.nD Cert.KernelIdeal.τ Cert.KernelIdeal.sig) → Buf (Elt Ideal) ℓ) : Prop :=
  ∀ c : Dev Cert.KernelIdeal.nD,
    (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_representable [hPre_representable : Cert.Pre_representable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_representable [hKernelIdeal : Cert.KernelIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_representable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_representable [hReferenceIdeal : Cert.ReferenceIdeal.Facts] [hPre_representable : Cert.Pre_representable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_representable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def preserves_Reference_ReferenceIdeal : Prop :=
  IdealRules.named_const.Statement Cert.ReferenceIdeal.κ "ln2" .f32 0x3F317218#32 ((Real.log 2 : ℝ) : EReal)

def algebraic_KernelIdeal_ReferenceIdeal_pre_representable [hKernelIdeal : Cert.KernelIdeal.Facts] [hReferenceIdeal : Cert.ReferenceIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_representable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_representable : Cert.Pre_representable.Facts),
    quiescent_Kernel (hKernel := hKernel)
    ∧ quiescent_KernelIdeal (hKernelIdeal := hKernelIdeal)
    ∧ quiescent_KernelIdeal_pre_representable (hKernelIdeal := hKernelIdeal) (hPre_representable := hPre_representable)
    ∧ quiescent_ReferenceIdeal (hReferenceIdeal := hReferenceIdeal)
    ∧ quiescent_ReferenceIdeal_pre_representable (hReferenceIdeal := hReferenceIdeal) (hPre_representable := hPre_representable)
    ∧ quiescent_Reference (hReference := hReference)
    ∧ preserves_Kernel_KernelIdeal
    ∧ preserves_Reference_ReferenceIdeal
    ∧ algebraic_KernelIdeal_ReferenceIdeal_pre_representable (hKernelIdeal := hKernelIdeal) (hReferenceIdeal := hReferenceIdeal) (hPre_representable := hPre_representable)
-- ==== Pre_representable.lean ====
abbrev S3x8192x2304 : Shape := ⟨3, ![3, 8192, 2304]⟩
abbrev S15360x2304 : Shape := ⟨2, ![15360, 2304]⟩
abbrev S120x18 : Shape := ⟨2, ![120, 18]⟩
abbrev S_ : Shape := ⟨0, ![]⟩

class Facts : Prop where
  bcast_S_S3x8192x2304 : S_.BroadcastsInDim S3x8192x2304 (![] : Fin 0 → Fin S3x8192x2304.rank)
  reducesTo_S3x8192x2304_S_d0_1_2 : S3x8192x2304.ReducesTo [0, 1, 2] S_
  h_S_ : 0 < S_.numel

variable [Facts]

def fn {F : FTy → Type} [FloatOps F] (main_arg0 : FVec F S3x8192x2304 .bf16) (main_arg1 : FVec F S15360x2304 .fp8e4m3) (main_arg2 : FVec F S120x18 .f32) : IVec S_ 1 :=
  let main_v0 : FVec F S3x8192x2304 .bf16 := Host.absf main_arg0
  let main_cst : FVec F S_ .bf16 := constant S_ .bf16 0x7F7F#16
  let main_v1 : FVec F S3x8192x2304 .bf16 := broadcastInDim S3x8192x2304 ![] bcast_S_S3x8192x2304 main_cst
  let main_v2 : IVec S3x8192x2304 1 := cmpf .ole main_v0 main_v1
  let main_v3 : FVec F S3x8192x2304 .bf16 := Host.absf main_arg0
  let main_cst_0 : FVec F S_ .bf16 := constant S_ .bf16 0x7F80#16
  let main_v4 : FVec F S3x8192x2304 .bf16 := broadcastInDim S3x8192x2304 ![] bcast_S_S3x8192x2304 main_cst_0
  let main_v5 : IVec S3x8192x2304 1 := cmpf .oeq main_v3 main_v4
  let main_v6 : IVec S3x8192x2304 1 := ori main_v2 main_v5
  let main_c : IVec S_ 1 := constantI S_ 1 1#1
  let main_v7 : IVec S_ 1 := (fun x v => Host.reduce IntOp.andi x v reducesTo_S3x8192x2304_S_d0_1_2 h_S_) main_v6 main_c
  main_v7
-- ==== Kernel.lean ====
abbrev S3x8192x2304 : Shape := ⟨3, ![3, 8192, 2304]⟩
abbrev S15360x2304 : Shape := ⟨2, ![15360, 2304]⟩
abbrev S120x18 : Shape := ⟨2, ![120, 18]⟩
abbrev S24576x2304 : Shape := ⟨2, ![24576, 2304]⟩
abbrev S24576x15360 : Shape := ⟨2, ![24576, 15360]⟩
abbrev S24576x18 : Shape := ⟨2, ![24576, 18]⟩
abbrev S1024x2304 : Shape := ⟨2, ![1024, 2304]⟩
abbrev S1024x1024 : Shape := ⟨2, ![1024, 1024]⟩
abbrev S1024x18 : Shape := ⟨2, ![1024, 18]⟩
abbrev S256x128 : Shape := ⟨2, ![256, 128]⟩
abbrev S256 : Shape := ⟨1, ![256]⟩
abbrev S256x1 : Shape := ⟨2, ![256, 1]⟩
abbrev S256x18 : Shape := ⟨2, ![256, 18]⟩
abbrev S128x128 : Shape := ⟨2, ![128, 128]⟩
abbrev S1x1 : Shape := ⟨2, ![1, 1]⟩
abbrev S128x2304 : Shape := ⟨2, ![128, 2304]⟩

abbrev nBuf : Space → Nat
  | .hbm => 7
  | .vmem => 11
  | .smem => 1
  | _ => 0

abbrev bufTy : (tb : Table) → Fin (tcTables nBuf tb) → BufTy
  | .hbm, ⟨0, _⟩ => ⟨S3x8192x2304, .bf16⟩
  | .hbm, ⟨1, _⟩ => ⟨S15360x2304, .fp8e4m3⟩
  | .hbm, ⟨2, _⟩ => ⟨S120x18, .f32⟩
  | .hbm, ⟨3, _⟩ => ⟨S24576x2304, .bf16⟩
  | .hbm, ⟨4, _⟩ => ⟨S24576x15360, .bf16⟩
  | .hbm, ⟨5, _⟩ => ⟨S24576x2304, .fp8e5m2⟩
  | .hbm, ⟨6, _⟩ => ⟨S24576x18, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .fp8e4m3⟩
  | .local _ .vmem, ⟨3, _⟩ => ⟨S1024x2304, .fp8e4m3⟩
  | .local _ .vmem, ⟨4, _⟩ => ⟨S1024x1024, .bf16⟩
  | .local _ .vmem, ⟨5, _⟩ => ⟨S1024x1024, .bf16⟩
  | .local _ .vmem, ⟨6, _⟩ => ⟨S1024x2304, .fp8e5m2⟩
  | .local _ .vmem, ⟨7, _⟩ => ⟨S1024x2304, .fp8e5m2⟩
  | .local _ .vmem, ⟨8, _⟩ => ⟨S1024x18, .f32⟩
  | .local _ .vmem, ⟨9, _⟩ => ⟨S1024x18, .f32⟩
  | .local _ .vmem, ⟨10, _⟩ => ⟨S1024x2304, .bf16⟩
  | .local _ .smem, ⟨0, _⟩ => ⟨S120x18, .f32⟩
  | _, _ => ⟨S3x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 15], ![false, false]⟩

def k0_off1 (i : grid0.Coords) (c0_i32_2 : BitVec 32) : Fin 2 → Nat :=
  let arg1 : BitVec 32 := BitVec.ofNat 32 (i 1).val
  let c8_i32 : BitVec 32 := 8#32
  let v3 : BitVec 32 := Scalar.muli arg1 c8_i32
  let v5 : BitVec 32 := Scalar.addi v3 c0_i32_2
  let v6 : Index := Scalar.indexCast v5
  let c0_3 : Index := 0#32
  ![v6.toNat, 0]
def k0_off2 (i : grid0.Coords) (c0_i32_5 : BitVec 32) : Fin 2 → Nat :=
  let arg1 : BitVec 32 := BitVec.ofNat 32 (i 1).val
  let c8_i32 : BitVec 32 := 8#32
  let v3 : BitVec 32 := Scalar.muli arg1 c8_i32
  let v13 : BitVec 32 := Scalar.addi v3 c0_i32_5
  let v14 : Index := Scalar.indexCast v13
  let c1 : Index := 1#32
  ![v14.toNat, 1]
def k0_off3 (i : grid0.Coords) (c0_i32_7 : BitVec 32) : Fin 2 → Nat :=
  let arg1 : BitVec 32 := BitVec.ofNat 32 (i 1).val
  let c8_i32 : BitVec 32 := 8#32
  let v3 : BitVec 32 := Scalar.muli arg1 c8_i32
  let v21 : BitVec 32 := Scalar.addi v3 c0_i32_7
  let v22 : Index := Scalar.indexCast v21
  let c2 : Index := 2#32
  ![v22.toNat, 2]
def k0_off4 (i : grid0.Coords) (c0_i32_9 : BitVec 32) : Fin 2 → Nat :=
  let arg1 : BitVec 32 := BitVec.ofNat 32 (i 1).val
  let c8_i32 : BitVec 32 := 8#32
  let v3 : BitVec 32 := Scalar.muli arg1 c8_i32
  let v29 : BitVec 32 := Scalar.addi v3 c0_i32_9
  let v30 : Index := Scalar.indexCast v29
  let c3 : Index := 3#32
  ![v30.toNat, 3]
def k0_off5 (i : grid0.Coords) (c0_i32_11 : BitVec 32) : Fin 2 → Nat :=
  let arg1 : BitVec 32 := BitVec.ofNat 32 (i 1).val
  let c8_i32 : BitVec 32 := 8#32
  let v3 : BitVec 32 := Scalar.muli arg1 c8_i32
  let v37 : BitVec 32 := Scalar.addi v3 c0_i32_11
  let v38 : Index := Scalar.indexCast v37
  let c4 : Index := 4#32
  ![v38.toNat, 4]
def k0_off6 (i : grid0.Coords) (c0_i32_13 : BitVec 32) : Fin 2 → Nat :=
  let arg1 : BitVec 32 := BitVec.ofNat 32 (i 1).val
  let c8_i32 : BitVec 32 := 8#32
  let v3 : BitVec 32 := Scalar.muli arg1 c8_i32
  let v45 : BitVec 32 := Scalar.addi v3 c0_i32_13
  let v46 : Index := Scalar.indexCast v45
  let c5 : Index := 5#32
  ![v46.toNat, 5]
def k0_off7 (i : grid0.Coords) (c0_i32_15 : BitVec 32) : Fin 2 → Nat :=
  let arg1 : BitVec 32 := BitVec.ofNat 32 (i 1).val
  let c8_i32 : BitVec 32 := 8#32
  let v3 : BitVec 32 := Scalar.muli arg1 c8_i32
  let v53 : BitVec 32 := Scalar.addi v3 c0_i32_15
  let v54 : Index := Scalar.indexCast v53
  let c6 : Index := 6#32
  ![v54.toNat, 6]
def k0_off8 (i : grid0.Coords) (c0_i32_17 : BitVec 32) : Fin 2 → Nat :=
  let arg1 : BitVec 32 := BitVec.ofNat 32 (i 1).val
  let c8_i32 : BitVec 32 := 8#32
  let v3 : BitVec 32 := Scalar.muli arg1 c8_i32
  let v61 : BitVec 32 := Scalar.addi v3 c0_i32_17
  let v62 : Index := Scalar.indexCast v61
  let c7 : Index := 7#32
  ![v62.toNat, 7]
def k0_off9 (i : grid0.Coords) (c0_i32_19 : BitVec 32) : Fin 2 → Nat :=
  let arg1 : BitVec 32 := BitVec.ofNat 32 (i 1).val
  let c8_i32 : BitVec 32 := 8#32
  let v3 : BitVec 32 := Scalar.muli arg1 c8_i32
  let v69 : BitVec 32 := Scalar.addi v3 c0_i32_19
  let v70 : Index := Scalar.indexCast v69
  let c8 : Index := 8#32
  ![v70.toNat, 8]
def k0_off10 (i : grid0.Coords) (c0_i32_21 : BitVec 32) : Fin 2 → Nat :=
  let arg1 : BitVec 32 := BitVec.ofNat 32 (i 1).val
  let c8_i32 : BitVec 32 := 8#32
  let v3 : BitVec 32 := Scalar.muli arg1 c8_i32
  let v77 : BitVec 32 := Scalar.addi v3 c0_i32_21
  let v78 : Index := Scalar.indexCast v77
  let c9 : Index := 9#32
  ![v78.toNat, 9]
def k0_off11 (i : grid0.Coords) (c0_i32_23 : BitVec 32) : Fin 2 → Nat :=
  let arg1 : BitVec 32 := BitVec.ofNat 32 (i 1).val
  let c8_i32 : BitVec 32 := 8#32
  let v3 : BitVec 32 := Scalar.muli arg1 c8_i32
  let v85 : BitVec 32 := Scalar.addi v3 c0_i32_23
  let v86 : Index := Scalar.indexCast v85
  let c10 : Index := 10#32
  ![v86.toNat, 10]
def k0_off12 (i : grid0.Coords) (c0_i32_25 : BitVec 32) : Fin 2 → Nat :=
  let arg1 : BitVec 32 := BitVec.ofNat 32 (i 1).val
  let c8_i32 : BitVec 32 := 8#32
  let v3 : BitVec 32 := Scalar.muli arg1 c8_i32
  let v93 : BitVec 32 := Scalar.addi v3 c0_i32_25
  let v94 : Index := Scalar.indexCast v93
  let c11 : Index := 11#32
  ![v94.toNat, 11]
def k0_off13 (i : grid0.Coords) (c0_i32_27 : BitVec 32) : Fin 2 → Nat :=
  let arg1 : BitVec 32 := BitVec.ofNat 32 (i 1).val
  let c8_i32 : BitVec 32 := 8#32
  let v3 : BitVec 32 := Scalar.muli arg1 c8_i32
  let v101 : BitVec 32 := Scalar.addi v3 c0_i32_27
  let v102 : Index := Scalar.indexCast v101
  let c12 : Index := 12#32
  ![v102.toNat, 12]
def k0_off14 (i : grid0.Coords) (c0_i32_29 : BitVec 32) : Fin 2 → Nat :=
  let arg1 : BitVec 32 := BitVec.ofNat 32 (i 1).val
  let c8_i32 : BitVec 32 := 8#32
  let v3 : BitVec 32 := Scalar.muli arg1 c8_i32
  let v109 : BitVec 32 := Scalar.addi v3 c0_i32_29
  let v110 : Index := Scalar.indexCast v109
  let c13 : Index := 13#32
  ![v110.toNat, 13]
def k0_off15 (i : grid0.Coords) (c0_i32_31 : BitVec 32) : Fin 2 → Nat :=
  let arg1 : BitVec 32 := BitVec.ofNat 32 (i 1).val
  let c8_i32 : BitVec 32 := 8#32
  let v3 : BitVec 32 := Scalar.muli arg1 c8_i32
  let v117 : BitVec 32 := Scalar.addi v3 c0_i32_31
  let v118 : Index := Scalar.indexCast v117
  let c14 : Index := 14#32
  ![v118.toNat, 14]
def k0_off16 (i : grid0.Coords) (c0_i32_33 : BitVec 32) : Fin 2 → Nat :=
  let arg1 : BitVec 32 := BitVec.ofNat 32 (i 1).val
  let c8_i32 : BitVec 32 := 8#32
  let v3 : BitVec 32 := Scalar.muli arg1 c8_i32
  let v125 : BitVec 32 := Scalar.addi v3 c0_i32_33
  let v126 : Index := Scalar.indexCast v125
  let c15 : Index := 15#32
  ![v126.toNat, 15]
def k0_off17 (i : grid0.Coords) (c0_i32_35 : BitVec 32) : Fin 2 → Nat :=
  let arg1 : BitVec 32 := BitVec.ofNat 32 (i 1).val
  let c8_i32 : BitVec 32 := 8#32
  let v3 : BitVec 32 := Scalar.muli arg1 c8_i32
  let v133 : BitVec 32 := Scalar.addi v3 c0_i32_35
  let v134 : Index := Scalar.indexCast v133
  let c16 : Index := 16#32
  ![v134.toNat, 16]
def k0_off18 (i : grid0.Coords) (c0_i32_37 : BitVec 32) : Fin 2 → Nat :=
  let arg1 : BitVec 32 := BitVec.ofNat 32 (i 1).val
  let c8_i32 : BitVec 32 := 8#32
  let v3 : BitVec 32 := Scalar.muli arg1 c8_i32
  let v141 : BitVec 32 := Scalar.addi v3 c0_i32_37
  let v142 : Index := Scalar.indexCast v141
  let c17 : Index := 17#32
  ![v142.toNat, 17]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S120x18 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2304 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2304 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x18 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
variable {F : FTy → Type} [FloatOps F] [Named F]
def κ : String → Option EReal := fun
  | "ln2" => some ((Real.log 2 : ℝ) : EReal)
  | _ => none
-- ==== Reference.lean ====
abbrev S3x8192x2304 : Shape := ⟨3, ![3, 8192, 2304]⟩
abbrev S15360x2304 : Shape := ⟨2, ![15360, 2304]⟩
abbrev S120x18 : Shape := ⟨2, ![120, 18]⟩
abbrev S24576x2304 : Shape := ⟨2, ![24576, 2304]⟩
abbrev S24576x15360 : Shape := ⟨2, ![24576, 15360]⟩
abbrev S24576x18 : Shape := ⟨2, ![24576, 18]⟩
abbrev S24576x18x128 : Shape := ⟨3, ![24576, 18, 128]⟩
abbrev S24576x18x1 : Shape := ⟨3, ![24576, 18, 1]⟩
abbrev S120x128x18x128 : Shape := ⟨4, ![120, 128, 18, 128]⟩
abbrev S120x1x18x1 : Shape := ⟨4, ![120, 1, 18, 1]⟩

abbrev nBuf : Space → Nat
  | .hbm => 7
  | .vmem => 6
  | .smem => 0
  | _ => 0

abbrev bufTy : (tb : Table) → Fin (tcTables nBuf tb) → BufTy
  | .hbm, ⟨0, _⟩ => ⟨S3x8192x2304, .bf16⟩
  | .hbm, ⟨1, _⟩ => ⟨S15360x2304, .fp8e4m3⟩
  | .hbm, ⟨2, _⟩ => ⟨S120x18, .f32⟩
  | .hbm, ⟨3, _⟩ => ⟨S24576x2304, .bf16⟩
  | .hbm, ⟨4, _⟩ => ⟨S24576x15360, .bf16⟩
  | .hbm, ⟨5, _⟩ => ⟨S24576x2304, .fp8e5m2⟩
  | .hbm, ⟨6, _⟩ => ⟨S24576x18, .f32⟩
  | .local _ .vmem, ⟨0, _⟩ => ⟨S24576x2304, .bf16⟩
  | .local _ .vmem, ⟨1, _⟩ => ⟨S15360x2304, .fp8e4m3⟩
  | .local _ .vmem, ⟨2, _⟩ => ⟨S120x18, .f32⟩
  | .local _ .vmem, ⟨3, _⟩ => ⟨S24576x15360, .bf16⟩
  | .local _ .vmem, ⟨4, _⟩ => ⟨S24576x2304, .fp8e5m2⟩
  | .local _ .vmem, ⟨5, _⟩ => ⟨S24576x18, .f32⟩
  | _, _ => ⟨S3x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S120x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x15360 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2304 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x18 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Exponent.lean ====
/- The scale of one group of 128 entries over the extended reals, reached two ways. The kernel finds the exponent field of
   `x` by a search over its eight bits, each step a comparison of `x` with the number whose field is the candidate; the
   reference takes the floor of the logarithm. Both give the power of two above `x`, or one where `x` is below the least
   normal number or infinite. -/
module

public import Idealize.ShloMosaic.PureOps.Ideal
public import Idealize.ShloMosaic.PureOps.Ideal.Laws
public import Idealize.ShloMosaic.Lib.IdealHost

@[expose] public section

noncomputable section

namespace Cert.Dgrad

open Idealize.ShloMosaic

/-! ## Numbers by their exponent field -/

/-- The word whose exponent field is `n` and whose other bits are zero. -/
def word (n : Nat) : BitVec 32 := BitVec.ofNat 32 (n * 2 ^ 23)

/-- The number that word denotes: zero, a power of two, or infinity. -/
def power (n : Nat) : EReal := if n = 0 then 0 else if n = 255 then ⊤ else (((2 : ℝ) ^ ((n : ℤ) - 127) : ℝ) : EReal)

theorem toNat_word (n : Nat) (h : n ≤ 255) : (word n).toNat = n * 2 ^ 23 := by
  unfold word
  rw [BitVec.toNat_ofNat, Nat.mod_eq_of_lt]
  calc n * 2 ^ 23 ≤ 255 * 2 ^ 23 := Nat.mul_le_mul_right _ h
    _ < 2 ^ 32 := by norm_num

/-- The word of a field is read as the field's number. -/
theorem ofBits_word (n : Nat) (h : n ≤ 255) : Ideal.ofBits .f32 (word n) = power n := by
  have hs : BitVec.extractLsb' (8 + 23) 1 (word n) = 0#1 := by
    apply BitVec.eq_of_toNat_eq
    rw [BitVec.extractLsb'_toNat, toNat_word n h, Nat.shiftRight_eq_div_pow, Nat.div_eq_of_lt (by norm_num; omega)]
    rfl
  have he : (BitVec.extractLsb' 23 8 (word n)).toNat = n := by
    rw [BitVec.extractLsb'_toNat, toNat_word n h, Nat.shiftRight_eq_div_pow,
      Nat.mul_div_cancel _ (by norm_num), Nat.mod_eq_of_lt (by norm_num; omega)]
  have hf : (BitVec.extractLsb' 0 23 (word n)).toNat = 0 := by
    rw [BitVec.extractLsb'_toNat, toNat_word n h, Nat.shiftRight_zero, Nat.mul_mod_left]
  show Ideal.ieee (w := 32) 8 23 (word n) = power n
  unfold Ideal.ieee power
  extract_lets neg ex fr bias sgn
  have hneg : neg = false := by show (BitVec.extractLsb' (8 + 23) 1 (word n) == 1#1) = false; rw [hs]; rfl
  have hex : ex = n := he
  have hfr : fr = 0 := hf
  have hsgn : sgn = 1 := by show (if neg then (-1 : ℝ) else 1) = 1; rw [hneg]; rfl
  have hbias : bias = 127 := by show (2 ^ (8 - 1) - 1 : ℤ) = 127; norm_num
  rw [hneg, hex, hfr, hsgn, hbias]
  rcases Nat.eq_zero_or_pos n with rfl | hn
  · simp
  by_cases h255 : n = 255
  · subst h255; simp
  rw [if_neg (by omega), if_neg (by omega), if_neg (by omega), if_neg h255]
  congr 1
  push_cast
  rw [zpow_sub₀ (by norm_num : (2 : ℝ) ≠ 0) ((n : ℤ) - 127) 23]
  norm_num
  ring

/-- Adding the words of two fields adds the fields. -/
theorem word_add (a b : Nat) : word a + word b = word (a + b) := by
  unfold word
  rw [← BitVec.ofNat_add, Nat.add_mul]

/-- Taking a field's word from a greater field's takes the fields. -/
theorem word_sub (a b : Nat) (h : b ≤ a) : word a - word b = word (a - b) := by
  rw [show word a = word (a - b) + word b by rw [word_add, Nat.sub_add_cancel h], BitVec.add_sub_cancel]

/-- Words of different fields differ. -/
theorem word_eq_iff (a b : Nat) (ha : a ≤ 255) (hb : b ≤ 255) : word a = word b ↔ a = b := by
  constructor
  · intro h
    have := congrArg BitVec.toNat h
    rw [toNat_word a ha, toNat_word b hb] at this
    exact Nat.eq_of_mul_eq_mul_right (by norm_num) this
  · rintro rfl; rfl

/-! ## The search -/

/-- One step: the candidate if `x` is at least the number it denotes, else the word so far. -/
def step (x : EReal) (k b : BitVec 32) : BitVec 32 :=
  Scalar.select (Ideal.cmp .oge x (Ideal.ofBits .f32 (b + k))) (b + k) b

/-- The exponent field of `x`, by eight steps. -/
def field (x : EReal) : BitVec 32 :=
  step x 8388608#32 (step x 16777216#32 (step x 33554432#32 (step x 67108864#32 (step x 134217728#32
    (step x 268435456#32 (step x 536870912#32 (step x 1073741824#32 0#32)))))))

/-- A selection by a decided proposition. -/
theorem select_ofBool {α : Type} (p : Prop) [Decidable p] (a b : α) :
    Scalar.select (BitVec.ofBool (decide p)) a b = if p then a else b := by
  by_cases h : p <;> simp [Scalar.select, h]

/-- `b` is the word of a field that `x` reaches and, `2 ^ k` further on, does not. -/
def Found (x : EReal) (k : Nat) (b : BitVec 32) : Prop :=
  ∃ n : Nat, b = word n ∧ n + 2 ^ k ≤ 256 ∧ power n ≤ x ∧ (n + 2 ^ k ≤ 255 → x < power (n + 2 ^ k))

/-- One step halves what is left to search. -/
theorem found_step (x : EReal) (k : Nat) (b : BitVec 32) (h : Found x (k + 1) b) : Found x k (step x (word (2 ^ k)) b) := by
  obtain ⟨n, rfl, hn, hx, hlt⟩ := h
  have e : 2 ^ (k + 1) = 2 ^ k + 2 ^ k := by rw [pow_succ]; omega
  have hpos : 0 < 2 ^ k := Nat.two_pow_pos k
  have hs : step x (word (2 ^ k)) (word n) = if power (n + 2 ^ k) ≤ x then word (n + 2 ^ k) else word n := by
    unfold step
    rw [word_add, ofBits_word _ (by omega)]
    exact select_ofBool _ _ _
  rw [hs]
  by_cases hc : power (n + 2 ^ k) ≤ x
  · rw [if_pos hc]
    exact ⟨n + 2 ^ k, rfl, by omega, hc, fun h' => by rw [add_assoc, ← e] at h' ⊢; exact hlt h'⟩
  · rw [if_neg hc]
    exact ⟨n, rfl, by omega, hx, fun _ => lt_of_not_ge hc⟩

/-- The search finds the field: the greatest whose number `x` reaches. -/
theorem found_field (x : EReal) (h : 0 ≤ x) : Found x 0 (field x) := by
  have h8 : Found x 8 0#32 := ⟨0, rfl, by norm_num, by simpa [power] using h, fun h' => by norm_num at h'⟩
  exact found_step x 0 _ (found_step x 1 _ (found_step x 2 _ (found_step x 3 _ (found_step x 4 _ (found_step x 5 _
    (found_step x 6 _ (found_step x 7 _ h8)))))))

/-! ## The scale both ways -/

/-- The field the kernel scales by: 126 where the field is 0 or 255 or the maximum is zero. -/
def scaleField (a x : EReal) : BitVec 32 :=
  Scalar.select
    (IntOp.ori (IntOp.ori (IntOp.cmpi .eq (field x) 0#32) (IntOp.cmpi .eq (field x) 2139095040#32))
      (Ideal.cmp .oeq a (Ideal.ofBits .f32 0x00000000#32)))
    1056964608#32 (field x)

/-- The kernel's scale, -/
def kernelScale (a x : EReal) : EReal := Ideal.ofBits .f32 (scaleField a x + 8388608#32)
/-- and its inverse. -/
def kernelInverse (a x : EReal) : EReal := Ideal.ofBits .f32 (2122317824#32 - scaleField a x)

/-- The reference's exponent. -/
def exponent (x : EReal) : EReal :=
  Scalar.select
    (IntOp.ori (Ideal.cmp .olt x (Ideal.ofBits .f32 0x00800000#32)) (Ideal.cmp .oeq x (Ideal.ofBits .f32 0x7F800000#32)))
    (Ideal.ofBits .f32 0x00000000#32)
    (Ideal.liftRound Int.floor (Ideal.div (Ideal.log x) ((Real.log 2 : ℝ) : EReal)) + Ideal.ofBits .f32 0x3F800000#32)

/-- The exponent where `x` is below the least normal number or infinite is zero. -/
theorem exponent_special (x : EReal) (h : x < power 1 ∨ x = ⊤) : exponent x = 0 := by
  unfold exponent
  rw [show Ideal.ofBits .f32 0x00800000#32 = power 1 from ofBits_word 1 (by norm_num),
    show Ideal.ofBits .f32 0x7F800000#32 = ⊤ from (ofBits_word 255 (by norm_num)).trans (by simp [power]), Ideal.ofBits_zero_f32]
  have e : IntOp.ori (Ideal.cmp .olt x (power 1)) (Ideal.cmp .oeq x ⊤) = 1#1 := by
    rcases h with h | h
    · rw [show Ideal.cmp .olt x (power 1) = 1#1 by simp [Ideal.cmp, h]]
      exact (by decide : ∀ b : BitVec 1, IntOp.ori 1#1 b = 1#1) _
    · rw [show Ideal.cmp .oeq x ⊤ = 1#1 by simp [Ideal.cmp, h]]
      exact (by decide : ∀ b : BitVec 1, IntOp.ori b 1#1 = 1#1) _
  rw [e]; rfl

/-- The exponent where `x` lies between two neighbouring powers of two is the upper one's. -/
theorem exponent_normal (r : ℝ) (n : ℤ) (hn : -126 ≤ n) (h0 : (2 : ℝ) ^ n ≤ r) (h1 : r < (2 : ℝ) ^ (n + 1)) :
    exponent (r : EReal) = (((n + 1 : ℤ) : ℝ) : EReal) := by
  have hr : 0 < r := lt_of_lt_of_le (zpow_pos (by norm_num) n) h0
  have htiny : ¬ ((r : EReal) < power 1) := by
    simp only [power, one_ne_zero, if_false, show (1 : Nat) ≠ 255 by norm_num]
    rw [EReal.coe_lt_coe_iff, not_lt]
    exact le_trans (zpow_le_zpow_right₀ (by norm_num) (by push_cast; omega)) h0
  have hl : 0 < Real.log 2 := Real.log_pos (by norm_num)
  have hfloor : Int.floor (Real.log r / Real.log 2) = n := by
    rw [Int.floor_eq_iff]
    have e0 : Real.log ((2 : ℝ) ^ n) = n * Real.log 2 := Real.log_zpow _ _
    have e1 : Real.log ((2 : ℝ) ^ (n + 1)) = ((n + 1 : ℤ) : ℝ) * Real.log 2 := Real.log_zpow _ _
    constructor
    · rw [le_div_iff₀ hl, ← e0]; exact Real.log_le_log (zpow_pos (by norm_num) n) h0
    · rw [div_lt_iff₀ hl]
      have := Real.log_lt_log hr h1
      rw [e1] at this
      push_cast at this
      exact this
  have hdiv : Ideal.div (Ideal.log (r : EReal)) ((Real.log 2 : ℝ) : EReal) = ((Real.log r / Real.log 2 : ℝ) : EReal) := by
    rw [Ideal.log_coe, if_neg (not_le.mpr hr)]
    unfold Ideal.div
    rw [if_neg (by exact_mod_cast hl.ne'), div_eq_mul_inv, EReal.coe_mul, EReal.coe_inv]
  unfold exponent
  rw [hdiv, Ideal.liftRound_coe, hfloor, show Ideal.ofBits .f32 0x00800000#32 = power 1 from ofBits_word 1 (by norm_num),
    show Ideal.ofBits .f32 0x7F800000#32 = ⊤ from (ofBits_word 255 (by norm_num)).trans (by simp [power]), Ideal.ofBits_one_f32]
  simp only [Ideal.cmp, htiny, EReal.coe_ne_top, IntOp.ori, Scalar.select]
  simp

/-- Two to a whole exponent. -/
theorem exp2_int (n : ℤ) : Ideal.exp2 (((n : ℤ) : ℝ) : EReal) = (((2 : ℝ) ^ n : ℝ) : EReal) := by
  rw [Ideal.exp2_coe]
  congr 1
  exact Real.rpow_intCast 2 n

/-- The kernel's scale and inverse are two to the reference's exponent and to its negation, where `x` is not negative and
    is below `2 ^ 126` or infinite, and the maximum is zero only where `x` is. -/
theorem scale_eq (a x : EReal) (h0 : 0 ≤ x) (h1 : x < power 253 ∨ x = ⊤) (ha : a = 0 → x = 0) :
    kernelScale a x = Ideal.exp2 (exponent x) ∧ kernelInverse a x = Ideal.exp2 (0 - exponent x) := by
  obtain ⟨n, hf, hn, hx, hlt⟩ := found_field x h0
  have hn' : n ≤ 255 := by rw [pow_zero] at hn; omega
  have w0 : (0#32 : BitVec 32) = word 0 := rfl
  have w255 : (2139095040#32 : BitVec 32) = word 255 := rfl
  have special (hs : x < power 1 ∨ x = ⊤) (hb : n = 0 ∨ n = 255) :
      kernelScale a x = Ideal.exp2 (exponent x) ∧ kernelInverse a x = Ideal.exp2 (0 - exponent x) := by
    have hsf : scaleField a x = word 126 := by
      unfold scaleField
      rw [hf, w0, w255]
      have e : IntOp.ori (IntOp.cmpi .eq (word n) (word 0)) (IntOp.cmpi .eq (word n) (word 255)) = 1#1 := by
        rcases hb with rfl | rfl <;> decide
      rw [e, (by decide : ∀ b : BitVec 1, IntOp.ori 1#1 b = 1#1)]
      rfl
    have hone : power 127 = 1 := by simp [power]
    have e2 : Ideal.exp2 0 = 1 := by simpa using exp2_int 0
    rw [exponent_special x hs, sub_zero, e2]
    unfold kernelScale kernelInverse
    rw [hsf, show (8388608#32 : BitVec 32) = word 1 from rfl, show (2122317824#32 : BitVec 32) = word 253 from rfl,
      word_add, word_sub 253 126 (by norm_num), ofBits_word (126 + 1) (by norm_num)]
    exact ⟨hone, hone⟩
  by_cases hz : n = 0
  · exact special (.inl (by simpa [hz] using hlt (by omega))) (.inl hz)
  by_cases ht : n = 255
  · refine special (.inr ?_) (.inr ht)
    rw [ht] at hx
    simpa [power] using hx
  have hp : power n = (((2 : ℝ) ^ ((n : ℤ) - 127) : ℝ) : EReal) := by simp [power, hz, ht]
  have htop : x ≠ ⊤ := fun e => by
    have := hlt (by omega)
    rw [e] at this
    exact absurd this (not_lt.mpr le_top)
  have hxlt := h1.resolve_right htop
  have hbot : x ≠ ⊥ := fun e => by rw [e] at h0; exact absurd h0 (by simp)
  obtain ⟨r, rfl⟩ : ∃ r : ℝ, x = (r : EReal) := ⟨x.toReal, (EReal.coe_toReal htop hbot).symm⟩
  have p253 : power 253 = (((2 : ℝ) ^ (126 : ℤ) : ℝ) : EReal) := by norm_num [power]
  rw [hp, EReal.coe_le_coe_iff] at hx
  rw [p253, EReal.coe_lt_coe_iff] at hxlt
  have hn252 : n ≤ 252 := by
    have := lt_of_le_of_lt hx hxlt
    have := (zpow_lt_zpow_iff_right₀ (by norm_num : (1 : ℝ) < 2)).mp this
    omega
  have hxu : r < (2 : ℝ) ^ ((n : ℤ) - 127 + 1) := by
    have := hlt (by omega)
    rw [show power (n + 2 ^ 0) = (((2 : ℝ) ^ ((n : ℤ) - 127 + 1) : ℝ) : EReal) by
      simp only [power, pow_zero, show n + 1 ≠ 0 by omega, show n + 1 ≠ 255 by omega, if_false]
      congr 2; push_cast; ring, EReal.coe_lt_coe_iff] at this
    exact this
  have hr : 0 < r := lt_of_lt_of_le (zpow_pos (by norm_num) _) hx
  have ha' : ¬ a = 0 := fun e => by
    have := ha e
    rw [EReal.coe_eq_zero] at this
    exact hr.ne' this
  have hsf : scaleField a r = word n := by
    unfold scaleField
    rw [hf, Ideal.ofBits_zero_f32, w0, w255,
      show IntOp.cmpi .eq (word n) (word 0) = 0#1 by
        simp only [IntOp.cmpi, beq_eq_false_iff_ne.mpr fun e => hz ((word_eq_iff n 0 hn' (by norm_num)).mp e)]; rfl,
      show IntOp.cmpi .eq (word n) (word 255) = 0#1 by
        simp only [IntOp.cmpi, beq_eq_false_iff_ne.mpr fun e => ht ((word_eq_iff n 255 hn' le_rfl).mp e)]; rfl,
      show Ideal.cmp .oeq a 0 = 0#1 by simp [Ideal.cmp, ha']]
    rfl
  rw [exponent_normal r _ (by omega) hx hxu, zero_sub, ← EReal.coe_neg, ← Int.cast_neg, exp2_int, exp2_int]
  unfold kernelScale kernelInverse
  rw [hsf, show (8388608#32 : BitVec 32) = word 1 from rfl, show (2122317824#32 : BitVec 32) = word 253 from rfl,
    word_add, word_sub 253 n (by omega), ofBits_word _ (by omega), ofBits_word _ (by omega)]
  constructor
  · simp only [power, show n + 1 ≠ 0 by omega, show n + 1 ≠ 255 by omega, if_false]
    congr 2; push_cast; ring
  · simp only [power, show 253 - n ≠ 0 by omega, show 253 - n ≠ 255 by omega, if_false]
    congr 2
    rw [Nat.cast_sub (by omega)]; push_cast; ring

end Cert.Dgrad

end
-- ==== Proof.Tiles.lean ====
/- What one call of the kernel's body leaves in its buffers, written once for a tile of 256 rows by one group of 128
   columns and spread over a block of 1024 rows by 18 groups; and the lemmas that bring each of the body's stores to
   these definitions. Nothing here depends on how the numbers are represented. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.Value
public import Idealize.ShloMosaic.Lib.Pointwise
public import Idealize.ShloMosaic.Lib.WholeRead
public import Idealize.ShloMosaic.Lib.Tactic

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable {F : FTy → Type} [FloatOps F]

/-! ## One tile of the gradient: 256 rows by one group -/

/-- The eight-bit codes of a tile. -/
def codesTile (v : Vec F S256x128 .bf16) : S256x128.Idx → Elt F .fp8e5m2 :=
  k0_pay12 (k0_pay4 v) (k0_pay5 v) (k0_pay6 v) (k0_pay7 v) (k0_pay8 v) (k0_pay9 v)

/-- The group scales of a tile, every lane of a row holding the row's scale. -/
def scaleTile (v : Vec F S256x128 .bf16) : S256x128.Idx → Elt F .f32 :=
  k0_pay11 (k0_pay5 v) (k0_pay6 v) (k0_pay7 v) (k0_pay8 v) (k0_pay9 v)

/-- The tile decoded again: each code times its row's scale. -/
def wideTile (v : Vec F S256x128 .bf16) : S256x128.Idx → Elt F .bf16 :=
  k0_pay13 (k0_pay4 v) (k0_pay5 v) (k0_pay6 v) (k0_pay7 v) (k0_pay8 v) (k0_pay9 v)

/-- The tile of a block at row chunk `a` and group `b`. -/
def tile (x : Vec F S1024x2304 .bf16) (a : Fin 4) (b : Fin 18) : Vec F S256x128 .bf16 := fun j =>
  x (ix2 ⟨256 * a.val + (j 0).val, by have := (j 0).isLt; have := a.isLt; simp at *; omega⟩
    ⟨128 * b.val + (j 1).val, by have := (j 1).isLt; have := b.isLt; simp at *; omega⟩)

/-- A function of a tile spread over a block: at each place, the function of the tile the place lies in. -/
def tiled {α : Type} (f : Vec F S256x128 .bf16 → S256x128.Idx → α) (x : Vec F S1024x2304 .bf16) : S1024x2304.Idx → α := fun y =>
  f (tile x ⟨(y 0).val / 256, by have := (y 0).isLt; simp at this; omega⟩ ⟨(y 1).val / 128, by have := (y 1).isLt; simp at this; omega⟩)
    (ix2 ⟨(y 0).val % 256, Nat.mod_lt _ (by decide)⟩ ⟨(y 1).val % 128, Nat.mod_lt _ (by decide)⟩)

/-- The codes of a block, -/
def codesOf (x : Vec F S1024x2304 .bf16) : Vec F S1024x2304 .fp8e5m2 := tiled codesTile x
/-- the block decoded again, -/
def wideOf (x : Vec F S1024x2304 .bf16) : Vec F S1024x2304 .bf16 := tiled wideTile x
/-- and its scales, one for each row and group. -/
def scalesOf (x : Vec F S1024x2304 .bf16) : Vec F S1024x18 .f32 := fun y =>
  scaleTile (tile x ⟨(y 0).val / 256, by have := (y 0).isLt; simp at this; omega⟩ (y 1))
    (ix2 ⟨(y 0).val % 256, Nat.mod_lt _ (by decide)⟩ ⟨(y 1).val, Nat.lt_trans (y 1).isLt (by decide)⟩)

/-- A tile loaded from the buffer that holds the block is the block's tile. -/
theorem load_tile (arg3 : Memref sig .tc .vmem S1024x2304 .bf16) (harg3 : arg3.IsWhole) (x : Vec F S1024x2304 .bf16)
    (off : Fin 2 → Nat) (inb : ∀ a, off a + S256x128.size a ≤ S1024x2304.size a) (a : Fin 4) (b : Fin 18)
    (h0 : off 0 = 256 * a.val) (h1 : off 1 = 128 * b.val) :
    View.readAt (Elt F) arg3.view (Rect.unit (s := S1024x2304) off S256x128.size inb).toLoadRect (harg3.unread x) = tile x a b := by
  funext j
  rw [Memref.IsWhole.readAt_unread]
  unfold tile
  congr 1
  funext d
  match d with
  | ⟨0, _⟩ => exact Fin.ext (by simp [Rect.unit, Rect.toLoadRect, LoadRect.idx]; omega)
  | ⟨1, _⟩ => exact Fin.ext (by simp [Rect.unit, Rect.toLoadRect, LoadRect.idx]; omega)

/-- The buffer `v` reads `G` after the stores `L`, if the stores cover it and each leaves its part of `G`. -/
theorem read_of_pieces {S : Shape} {e : EltTy} {sp : Space} (v : View sig .tc sp S e) (f : v.ty.Contents (Elt F))
    (G : S.Idx → Elt F e) (L : List (View.Piece (Elt F) S e)) (hc : ∀ y : S.Idx, ∃ p ∈ L, y ∈ p.1.set)
    (hG : ∀ p ∈ L, ∀ x : p.1.shape.Idx, p.2 x = G (p.1.emb x)) : v.read (Elt F) (v.writes (Elt F) f L) = G := by
  rw [View.read_writes_eq_canon v f L hc]
  exact funext fun y => View.canon_apply_of_pieces G L hG y (hc y)

/-- Two indices of one two-axis shape with the same coordinates are one. -/
theorem ix2_congr {n0 n1 : Nat} {a a' : Fin n0} {b b' : Fin n1} (ha : a.val = a'.val) (hb : b.val = b'.val) : ix2 a b = ix2 a' b' := by
  rw [Fin.ext ha, Fin.ext hb]

/-- The function of the tiles spread over the block, at a place given by its tile and its place in the tile. -/
theorem tiled_at {α : Type} (f : Vec F S256x128 .bf16 → S256x128.Idx → α) (x : Vec F S1024x2304 .bf16) (y : S1024x2304.Idx)
    (a : Fin 4) (b : Fin 18) (j : S256x128.Idx) (h0 : (y 0).val = 256 * a.val + (j 0).val) (h1 : (y 1).val = 128 * b.val + (j 1).val) :
    tiled f x y = f (tile x a b) j := by
  have j0 : (j 0).val < 256 := (j 0).isLt
  have j1 : (j 1).val < 128 := (j 1).isLt
  rw [show a = ⟨(y 0).val / 256, by omega⟩ from Fin.ext (show a.val = (y 0).val / 256 by omega),
    show b = ⟨(y 1).val / 128, by omega⟩ from Fin.ext (show b.val = (y 1).val / 128 by omega)]
  unfold tiled
  congr 1
  rw [← ix2_eta (n0 := 256) (n1 := 128) j]
  exact ix2_congr (show (y 0).val % 256 = (j 0).val by omega) (show (y 1).val % 128 = (j 1).val by omega)

/-- The block's scales at a place given by its row chunk, its row and its group. -/
theorem scalesOf_at (x : Vec F S1024x2304 .bf16) (y : S1024x18.Idx) (a : Fin 4) (b : Fin 18) (j : S256x128.Idx)
    (h0 : (y 0).val = 256 * a.val + (j 0).val) (h1 : (y 1).val = b.val) (h2 : (j 1).val = b.val) :
    scalesOf x y = scaleTile (tile x a b) j := by
  have j0 : (j 0).val < 256 := (j 0).isLt
  rw [show a = ⟨(y 0).val / 256, by omega⟩ from Fin.ext (show a.val = (y 0).val / 256 by omega), show b = y 1 from Fin.ext h1.symm]
  unfold scalesOf
  congr 1
  rw [← ix2_eta (n0 := 256) (n1 := 128) j]
  exact ix2_congr (show (y 0).val % 256 = (j 0).val by omega) (show (y 1).val = (j 1).val by omega)

/-- A tile's store leaves its part of the function of the tiles spread over the block. -/
theorem tiled_piece {α : Type} (f : Vec F S256x128 .bf16 → S256x128.Idx → α)
    (arg3 : Memref sig .tc .vmem S1024x2304 .bf16) (harg3 : arg3.IsWhole) (x : Vec F S1024x2304 .bf16)
    (off : Fin 2 → Nat) (inb : ∀ a, off a + S256x128.size a ≤ S1024x2304.size a) (pay : S256x128.Idx → α)
    (hpay : pay = f (View.readAt (Elt F) arg3.view (Rect.unit (s := S1024x2304) off S256x128.size inb).toLoadRect (harg3.unread x)))
    (h0 : off 0 % 256 = 0) (h1 : off 1 % 128 = 0) (j : S256x128.Idx) :
    pay j = tiled f x ((Rect.unit (s := S1024x2304) off S256x128.size inb).emb j) := by
  have i0 : off 0 + 256 ≤ 1024 := inb 0
  have i1 : off 1 + 128 ≤ 2304 := inb 1
  have d0 : off 0 = 256 * (off 0 / 256) := by omega
  have d1 : off 1 = 128 * (off 1 / 128) := by omega
  rw [hpay, load_tile arg3 harg3 x off inb ⟨off 0 / 256, by omega⟩ ⟨off 1 / 128, by omega⟩ d0 d1]
  refine (tiled_at f x _ _ _ j ?_ ?_).symm
  · show off 0 + 1 * (j 0).val = 256 * (off 0 / 256) + (j 0).val; omega
  · show off 1 + 1 * (j 1).val = 128 * (off 1 / 128) + (j 1).val; omega

/-! ## The scales of a row chunk: eighteen selections by lane -/

/-- The scales collected group by group: after `n` groups, lane `g < n` holds the scale of group `g`. -/
def collect (t : Nat → Vec F S256x128 .bf16) : Nat → FVec F S256x128 .f32
  | 0 => k0_pay3
  | n + 1 => select (cmpi .eq (iota .tc S256x128 32 [1] iota_S256x128_d1_w32) (broadcast S256x128 (BitVec.ofNat 32 n))) (scaleTile (t n)) (collect t n)

/-- Lane `g` of the collected scales is lane `g` of the scales of tile `g`. -/
theorem collect_apply (t : Nat → Vec F S256x128 .bf16) (n : Nat) (hn : n ≤ 128) (j : S256x128.Idx) (hj : (j 1).val < n) :
    collect t n j = scaleTile (t (j 1).val) j := by
  induction n with
  | zero => omega
  | succ n ih =>
    have hi : iota .tc S256x128 32 [1] iota_S256x128_d1_w32 j = BitVec.ofNat 32 (j 1).val := by simp [iota]
    unfold collect
    by_cases h : (j 1).val = n
    · simp [select, Scalar.select, cmpi, broadcast, hi, IntOp.cmpi, h]
    · rw [← ih (by omega) (by omega)]
      have : ¬ BitVec.ofNat 32 (j 1).val = BitVec.ofNat 32 n := fun e => h (by
        have := congrArg BitVec.toNat e; simp at this; omega)
      have hb : (BitVec.ofNat 32 (j 1).val == BitVec.ofNat 32 n) = false := by simpa using this
      simp only [select, Scalar.select, cmpi, broadcast, hi, IntOp.cmpi, hb]
      rfl

/-- The eighteen tiles of a row chunk as loaded from the buffer. -/
def loads (arg3 : Memref sig .tc .vmem S1024x2304 .bf16) (harg3 : arg3.IsWhole) (x : Vec F S1024x2304 .bf16) (r : Nat)
    (hr : r + 256 ≤ 1024) (n : Nat) : Vec F S256x128 .bf16 :=
  if h : n < 18 then View.readAt (Elt F) arg3.view (Rect.unit (s := S1024x2304) ![r, 128 * n] S256x128.size (by
    intro a; match a with | ⟨0, _⟩ => exact hr | ⟨1, _⟩ => simp; omega)).toLoadRect (harg3.unread x) else fun _ => x (ix2 0 0)

/-- The store of a row chunk's scales leaves its part of the block's scales. -/
theorem scales_piece (arg3 : Memref sig .tc .vmem S1024x2304 .bf16) (harg3 : arg3.IsWhole) (x : Vec F S1024x2304 .bf16)
    (off : Fin 2 → Nat) (inb : ∀ a, off a + S256x18.size a ≤ S1024x18.size a) (pay : S256x18.Idx → Elt F .f32)
    (hpay : pay = extractStridedSlice S256x18 ![0, 0] (collect (loads arg3 harg3 x (off 0) (inb 0)) 18) slices_S256x128_o0_0_S256x18)
    (h0 : off 0 % 256 = 0) (h1 : off 1 = 0) (j : S256x18.Idx) :
    pay j = scalesOf x ((Rect.unit (s := S1024x18) off S256x18.size inb).emb j) := by
  have i0 : off 0 + 256 ≤ 1024 := inb 0
  have j0 : (j 0).val < 256 := (j 0).isLt
  have j1 : (j 1).val < 18 := (j 1).isLt
  rw [hpay]
  have hs : extractStridedSlice S256x18 ![0, 0] (collect (loads arg3 harg3 x (off 0) (inb 0)) 18) slices_S256x128_o0_0_S256x18 j
      = collect (loads arg3 harg3 x (off 0) (inb 0)) 18 (ix2 (j 0) ⟨(j 1).val, by omega⟩) := by
    unfold extractStridedSlice
    congr 1
    funext d
    match d with
    | ⟨0, _⟩ => exact Fin.ext (by simp)
    | ⟨1, _⟩ => exact Fin.ext (by simp)
  rw [hs, collect_apply _ 18 (by decide) _ j1]
  unfold loads
  rw [dif_pos (show ((ix2 (j 0) ⟨(j 1).val, by omega⟩ : S256x128.Idx) 1).val < 18 from j1),
    load_tile arg3 harg3 x _ _ ⟨off 0 / 256, by omega⟩ (j 1) (by show off 0 = 256 * (off 0 / 256); omega) rfl]
  refine (scalesOf_at x _ _ _ _ ?_ ?_ rfl).symm
  · show off 0 + 1 * (j 0).val = 256 * (off 0 / 256) + (j 0).val; omega
  · show off 1 + 1 * (j 1).val = (j 1).val; omega

/-! ## The weight block -/

/-- One 128 by 128 block of the weight times its scale. -/
def weightTile (v : Vec F S128x128 .fp8e4m3) (s : Elt F .f32) : FVec F S128x128 .bf16 := k0_pay912 v s

/-- The place in the table of weight scales the body reads for row `n` of its blocks and column `k`. -/
def smemOff (i : grid0.Coords) (n k : Nat) : Fin 2 → Nat :=
  ![(Scalar.indexCast (Scalar.addi (Scalar.muli (BitVec.ofNat 32 (i 1).val) 8#32) (BitVec.ofNat 32 n))).toNat, k]

theorem smemOff_zero (i : grid0.Coords) (n k : Nat) (hn : n < 8) : smemOff i n k 0 = 8 * (i 1).val + n := by
  have h : (i 1).val < 15 := (i 1).isLt
  simp [smemOff, Scalar.indexCast, Scalar.addi, Scalar.muli, IntOp.addi, IntOp.muli]
  omega

/-- The block of the weight decoded: each element times the scale of its 128 by 128 block, in the rows of the table of
    scales that belong to grid column `i 1`. -/
def weightOf (i : grid0.Coords) (s : Vec F S120x18 .f32) (x : Vec F S1024x2304 .fp8e4m3) : Vec F S1024x2304 .bf16 := fun y =>
  weightTile (fun j => x (ix2 ⟨128 * ((y 0).val / 128) + (j 0).val, by have := (j 0).isLt; have := (y 0).isLt; simp at *; omega⟩
      ⟨128 * ((y 1).val / 128) + (j 1).val, by have := (j 1).isLt; have := (y 1).isLt; simp at *; omega⟩))
    (s (ix2 ⟨8 * (i 1).val + (y 0).val / 128, by have := (i 1).isLt; have := (y 0).isLt; simp [grid0] at *; omega⟩
      ⟨(y 1).val / 128, by have := (y 1).isLt; simp at *; omega⟩))
    (ix2 ⟨(y 0).val % 128, Nat.mod_lt _ (by decide)⟩ ⟨(y 1).val % 128, Nat.mod_lt _ (by decide)⟩)

/-- The block of the weight decoded, at a place given by its tile and its place in the tile. -/
theorem weightOf_at (i : grid0.Coords) (s : Vec F S120x18 .f32) (x : Vec F S1024x2304 .fp8e4m3) (y : S1024x2304.Idx)
    (n : Fin 8) (k : Fin 18) (j : S128x128.Idx) (h0 : (y 0).val = 128 * n.val + (j 0).val) (h1 : (y 1).val = 128 * k.val + (j 1).val)
    (v : Vec F S128x128 .fp8e4m3) (hv : ∀ (l : S128x128.Idx) (z : S1024x2304.Idx), (z 0).val = 128 * n.val + (l 0).val →
      (z 1).val = 128 * k.val + (l 1).val → v l = x z)
    (t : Elt F .f32) (ht : ∀ z : S120x18.Idx, (z 0).val = 8 * (i 1).val + n.val → (z 1).val = k.val → t = s z) :
    weightOf i s x y = weightTile v t j := by
  have j0 : (j 0).val < 128 := (j 0).isLt
  have j1 : (j 1).val < 128 := (j 1).isLt
  unfold weightOf
  congr 1
  · funext l
    exact (hv l _ (show 128 * ((y 0).val / 128) + (l 0).val = _ by omega) (show 128 * ((y 1).val / 128) + (l 1).val = _ by omega)).symm
  · exact (ht _ (show 8 * (i 1).val + (y 0).val / 128 = _ by omega) (show (y 1).val / 128 = _ by omega)).symm
  · rw [← ix2_eta (n0 := 128) (n1 := 128) j]
    exact ix2_congr (show (y 0).val % 128 = (j 0).val by omega) (show (y 1).val % 128 = (j 1).val by omega)

section Rows

variable (i : grid0.Coords) (arg2 : Memref sig .tc .smem S120x18 .f32) (harg2 : arg2.IsWhole)
  (arg4 : Memref sig .tc .vmem S1024x2304 .fp8e4m3) (harg4 : arg4.IsWhole)
  (s : Vec F S120x18 .f32) (x : Vec F S1024x2304 .fp8e4m3)

theorem inb_weight (n : Fin 8) (k : Fin 18) : ∀ a, (![128 * n.val, 128 * k.val] : Fin 2 → Nat) a + S128x128.size a ≤ S1024x2304.size a :=
  fun a => match a with
  | ⟨0, _⟩ => by show 128 * n.val + 128 ≤ 1024; omega
  | ⟨1, _⟩ => by show 128 * k.val + 128 ≤ 2304; omega

theorem inb_smem (n : Fin 8) (k : Fin 18) : ∀ a, smemOff i n.val k.val a + S1x1.size a ≤ S120x18.size a :=
  fun a => match a with
  | ⟨0, _⟩ => by
    have h : (i 1).val < 15 := (i 1).isLt
    show smemOff i n.val k.val 0 + 1 ≤ 120
    rw [smemOff_zero i _ _ n.isLt]; omega
  | ⟨1, _⟩ => by show k.val + 1 ≤ 18; omega

/-- The block of row `n` and column `k` as the body computes it from its loads. -/
def loadedTile (n : Fin 8) (k : Fin 18) : FVec F S128x128 .bf16 :=
  weightTile (View.readAt (Elt F) arg4.view (Rect.unit (s := S1024x2304) ![128 * n.val, 128 * k.val] S128x128.size (inb_weight n k)).toLoadRect (harg4.unread x))
    (View.readAt (Elt F) arg2.view (Rect.unit (s := S120x18) (smemOff i n.val k.val) S1x1.size (inb_smem i n k)).toLoadRect (harg2.unread s)
      (Shape.Idx.first (numel1_S1x1.symm ▸ Nat.one_pos)))

/-- Row `n` of the blocks: its eighteen blocks side by side. -/
def loadedRow (n : Fin 8) : FVec F S128x2304 .bf16 :=
  concatenate S128x2304 1 (List.ofFn fun k : Fin 18 => (⟨S128x128, loadedTile i arg2 harg2 arg4 harg4 s x n k⟩ : (s : Shape) × (s.Idx → Elt F .bf16)))
    concatenates_S128x128_S128x128_S128x128_S128x128_S128x128_S128x128_S128x128_S128x128_S128x128_S128x128_S128x128_S128x128_S128x128_S128x128_S128x128_S128x128_S128x128_S128x128_S128x2304_d1

/-- The eight rows of blocks one below the other. -/
def loadedWeight : FVec F S1024x2304 .bf16 :=
  concatenate S1024x2304 0 (List.ofFn fun n : Fin 8 => (⟨S128x2304, loadedRow i arg2 harg2 arg4 harg4 s x n⟩ : (s : Shape) × (s.Idx → Elt F .bf16)))
    concatenates_S128x2304_S128x2304_S128x2304_S128x2304_S128x2304_S128x2304_S128x2304_S128x2304_S1024x2304_d0

/-- What the body assembles from its loads is the decoded block of the weight. -/
theorem loadedWeight_eq : loadedWeight i arg2 harg2 arg4 harg4 s x = weightOf i s x := by
  funext y
  have y0 : (y 0).val < 1024 := (y 0).isLt
  have y1 : (y 1).val < 2304 := (y 1).isLt
  unfold loadedWeight
  refine (concatenate_ofFn_apply (t := S1024x2304) (s₁ := S128x2304) 0 (loadedRow i arg2 harg2 arg4 harg4 s x) _ rfl 128 rfl y ⟨(y 0).val / 128, by omega⟩ rfl
    (ix2 ⟨(y 0).val % 128, by omega⟩ (y 1)) rfl (fun b hb => match b with | ⟨0, _⟩ => absurd rfl hb | ⟨1, _⟩ => rfl)).trans ?_
  unfold loadedRow
  refine (concatenate_ofFn_apply (t := S128x2304) (s₁ := S128x128) 1 (loadedTile i arg2 harg2 arg4 harg4 s x _) _ rfl 128 rfl _ ⟨(y 1).val / 128, by omega⟩ rfl
    (ix2 ⟨(y 0).val % 128, by omega⟩ ⟨(y 1).val % 128, by omega⟩) rfl (fun b hb => match b with | ⟨0, _⟩ => rfl | ⟨1, _⟩ => absurd rfl hb)).trans ?_
  unfold loadedTile
  refine (weightOf_at i s x y ⟨(y 0).val / 128, by omega⟩ ⟨(y 1).val / 128, by omega⟩ _ (show (y 0).val = 128 * ((y 0).val / 128) + (y 0).val % 128 by omega)
    (show (y 1).val = 128 * ((y 1).val / 128) + (y 1).val % 128 by omega) _ (fun l z h0 h1 => ?_) _ (fun z h0 h1 => ?_)).symm
  · rw [Memref.IsWhole.readAt_unread]
    congr 1
    funext d
    match d with
    | ⟨0, _⟩ => exact Fin.ext (h0.trans (by show _ = 128 * ((y 0).val / 128) + 1 * (l 0).val; simp)).symm
    | ⟨1, _⟩ => exact Fin.ext (h1.trans (by show _ = 128 * ((y 1).val / 128) + 1 * (l 1).val; simp)).symm
  · rw [Memref.IsWhole.readAt_unread]
    congr 1
    funext d
    match d with
    | ⟨0, _⟩ =>
      refine Fin.ext (h0.trans ?_).symm
      show _ = smemOff i ((y 0).val / 128) ((y 1).val / 128) 0 + 1 * 0
      rw [smemOff_zero _ _ _ (by omega)]; simp
    | ⟨1, _⟩ => exact Fin.ext (h1.trans (by show _ = (y 1).val / 128 + 1 * 0; simp)).symm

end Rows

/-- The block of the product: the decoded gradient block against the decoded weight block, contracted over the columns. -/
def dxOf (i : grid0.Coords) (s : Vec F S120x18 .f32) (w : Vec F S1024x2304 .bf16) (x : Vec F S1024x2304 .fp8e4m3) : Vec F S1024x1024 .bf16 :=
  truncf .bf16 (matmul dot_S1024x2304_S1024x2304_S1024x1024_1_1_0_0_n_n none w (weightOf i s x) (constant S1024x1024 .f32 0x00000000#32)) bitsLt_bf16_f32

end Cert.KernelIdeal.Body

end
-- ==== Proof.Group.lean ====
/- One group of 128 entries over the extended reals: its maximum, the number its scale is found from, its codes and the
   codes decoded; and that the kernel's tile holds these, whichever row and group it is read at. -/
module

public import proofs.«01_k».proof.Proof.Exponent
public import proofs.«01_k».proof.Proof.Tiles
public import Idealize.ShloMosaic.Lib.Pointwise
public import Idealize.ShloMosaic.Lib.Pointwise.Tactic

@[expose] public section

set_option maxRecDepth 16384

noncomputable section

namespace Cert.Dgrad

open Idealize.ShloMosaic

/-! ## A group -/

/-- The greatest size of a group's entries, -/
def amax (v : Fin 128 → EReal) : EReal :=
  (Finset.univ : Finset (Fin 128)).fold max (Ideal.ofBits .f32 0xFF800000#32) fun k => max (v k) (-(v k))
/-- the number the group's scale is found from, -/
def lead (v : Fin 128 → EReal) : EReal := amax v * Ideal.ofBits .f32 0x37924925#32
/-- its scale, a power of two, -/
def scale (v : Fin 128 → EReal) : EReal := Ideal.exp2 (exponent (lead v))
/-- the code of entry `k`: the entry over the scale, held to the range of the eight-bit format, -/
def code (v : Fin 128 → EReal) (k : Fin 128) : EReal :=
  min (Ideal.ofBits .f32 0x47600000#32) (max (Ideal.ofBits .f32 0xC7600000#32) (v k * Ideal.exp2 (0 - exponent (lead v))))
/-- and the code times the scale. -/
def wide (v : Fin 128 → EReal) (k : Fin 128) : EReal := code v k * scale v

/-- What the precondition says of an entry: its size is at most the greatest finite bfloat16, or infinite. -/
def Rep (x : EReal) : Prop := max x (-x) ≤ Ideal.ofBits .bf16 0x7F7F#16 ∨ max x (-x) = Ideal.ofBits .bf16 0x7F80#16

/-- The greatest finite bfloat16 is below `2 ^ 128`. -/
theorem bf16_max : Ideal.ofBits .bf16 0x7F7F#16 ≤ (((2 : ℝ) ^ 128 : ℝ) : EReal) := by
  simp [Ideal.ofBits, Ideal.ieee, -EReal.coe_mul, -EReal.coe_pow]
  norm_num

theorem bf16_inf : Ideal.ofBits .bf16 0x7F80#16 = ⊤ := by
  simp [Ideal.ofBits, Ideal.ieee]

theorem f32_neg_inf : Ideal.ofBits .f32 0xFF800000#32 = ⊥ := by
  simp [Ideal.ofBits, Ideal.ieee]

/-- The reciprocal of 57344 the maximum is multiplied by is positive and below `1 / 4`. -/
theorem recip_bounds : ∃ c : ℝ, Ideal.ofBits .f32 0x37924925#32 = (c : EReal) ∧ 0 < c ∧ c < 1 / 4 := by
  refine ⟨_, by simp [Ideal.ofBits, Ideal.ieee, -EReal.coe_mul]; rfl, ?_, ?_⟩ <;> norm_num

/-- No group's maximum is negative, -/
theorem amax_nonneg (v : Fin 128 → EReal) : 0 ≤ amax v := by
  have h : max (v 0) (-(v 0)) ≤ amax v := by
    unfold amax
    exact (Finset.le_fold_max _).mpr (.inr ⟨0, Finset.mem_univ _, le_rfl⟩)
  refine le_trans ?_ h
  rcases le_total 0 (v 0) with h0 | h0
  · exact le_max_of_le_left h0
  · exact le_max_of_le_right (EReal.neg_nonneg.mpr h0)

/-- and where the precondition holds of the entries it is at most `2 ^ 128` or infinite. -/
theorem amax_le (v : Fin 128 → EReal) (h : ∀ k, Rep (v k)) : amax v ≤ (((2 : ℝ) ^ 128 : ℝ) : EReal) ∨ amax v = ⊤ := by
  by_cases ht : ∃ k, max (v k) (-(v k)) = ⊤
  · obtain ⟨k, hk⟩ := ht
    refine .inr (top_le_iff.mp ?_)
    unfold amax
    exact (Finset.le_fold_max _).mpr (.inr ⟨k, Finset.mem_univ _, hk.ge⟩)
  · refine .inl ?_
    unfold amax
    refine (Finset.fold_max_le _).mpr ⟨by rw [f32_neg_inf]; exact bot_le, fun k _ => ?_⟩
    rcases h k with hk | hk
    · exact hk.trans bf16_max
    · exact absurd ⟨k, hk.trans bf16_inf⟩ ht

/-- So the kernel's scale and inverse of such a group are the reference's. -/
theorem group_scale (v : Fin 128 → EReal) (h : ∀ k, Rep (v k)) :
    kernelScale (amax v) (lead v) = scale v ∧ kernelInverse (amax v) (lead v) = Ideal.exp2 (0 - exponent (lead v)) := by
  obtain ⟨c, hc, hpos, hlt⟩ := recip_bounds
  refine scale_eq (amax v) (lead v) ?_ ?_ ?_
  · unfold lead
    rw [hc]
    exact mul_nonneg (amax_nonneg v) (by exact_mod_cast hpos.le)
  · unfold lead
    rw [hc]
    rcases amax_le v h with ha | ha
    · have hb : amax v ≠ ⊥ := fun e => by have := amax_nonneg v; rw [e] at this; exact absurd this (by simp)
      have ht : amax v ≠ ⊤ := fun e => by rw [e] at ha; exact absurd ha (not_le.mpr (EReal.coe_lt_top _))
      have h0 := amax_nonneg v
      obtain ⟨r, hr⟩ : ∃ r : ℝ, amax v = (r : EReal) := ⟨(amax v).toReal, (EReal.coe_toReal ht hb).symm⟩
      rw [hr] at ha h0 ⊢
      have ha' : r ≤ 2 ^ 128 := EReal.coe_le_coe_iff.mp ha
      have h0' : 0 ≤ r := by exact_mod_cast h0
      refine .inl ?_
      rw [← EReal.coe_mul, show power 253 = (((2 : ℝ) ^ 126 : ℝ) : EReal) by norm_num [power], EReal.coe_lt_coe_iff]
      calc r * c ≤ 2 ^ 128 * c := mul_le_mul_of_nonneg_right ha' hpos.le
        _ < 2 ^ 128 * (1 / 4) := mul_lt_mul_of_pos_left hlt (by norm_num)
        _ = 2 ^ 126 := by norm_num
    · rw [ha]
      exact .inr (EReal.top_mul_coe_of_pos hpos)
  · intro e
    unfold lead
    rw [e, zero_mul]

/-! ## The kernel's tile -/

open Cert.KernelIdeal Cert.KernelIdeal.Gen Cert.KernelIdeal.Body

/-- Row `r` of a tile, as a group. -/
abbrev rowGroup (v : Vec Ideal S256x128 .bf16) (r : Fin 256) : Fin 128 → EReal := fun k => v (ix2 r k)

/-- Every lane of a row holds the row's maximum. -/
theorem pay5_apply (v : Vec Ideal S256x128 .bf16) (j : S256x128.Idx) : k0_pay5 v j = amax (rowGroup v (j 0)) := by
  unfold k0_pay5 k0_pay4 amax
  pointwise
  rfl

/-- One step of the search at every place of a tile. -/
def steps (x : FVec Ideal S256x128 .f32) (k : BitVec 32) (b : IVec S256x128 32) : IVec S256x128 32 :=
  select (cmpf .oge x (bitcastToFloat .f32 (addi b (broadcast S256x128 k)))) (addi b (broadcast S256x128 k)) b

theorem steps_apply (x : FVec Ideal S256x128 .f32) (k : BitVec 32) (b : IVec S256x128 32) (j : S256x128.Idx) :
    steps x k b j = step (x j) k (b j) := by
  unfold steps step
  rfl

/-- The kernel's first six steps, -/
theorem pay7_eq (v : Vec Ideal S256x128 .bf16) :
    k0_pay7 v = steps (k0_pay6 v) 33554432#32 (steps (k0_pay6 v) 67108864#32 (steps (k0_pay6 v) 134217728#32
      (steps (k0_pay6 v) 268435456#32 (steps (k0_pay6 v) 536870912#32
        (steps (k0_pay6 v) 1073741824#32 (broadcast S256x128 0#32)))))) := by
  sl_kernel_rfl

/-- and the last two, after any field so far. -/
theorem pay10_apply (a x : FVec Ideal S256x128 .f32) (b : IVec S256x128 32) (j : S256x128.Idx) :
    k0_pay10 a x b (addi b (broadcast S256x128 16777216#32))
        (cmpf .oge x (bitcastToFloat .f32 (addi b (broadcast S256x128 16777216#32)))) j
      = Scalar.select
        (IntOp.ori (IntOp.ori (IntOp.cmpi .eq (steps x 8388608#32 (steps x 16777216#32 b) j) 0#32)
            (IntOp.cmpi .eq (steps x 8388608#32 (steps x 16777216#32 b) j) 2139095040#32))
          (Ideal.cmp .oeq (a j) (Ideal.ofBits .f32 0x00000000#32)))
        1056964608#32 (steps x 8388608#32 (steps x 16777216#32 b) j) := by
  rfl

theorem scaleField_kernel (v : Vec Ideal S256x128 .bf16) (j : S256x128.Idx) :
    k0_pay10 (k0_pay5 v) (k0_pay6 v) (k0_pay7 v) (k0_pay8 v) (k0_pay9 v) j = scaleField (k0_pay5 v j) (k0_pay6 v j) := by
  refine (pay10_apply (k0_pay5 v) (k0_pay6 v) (k0_pay7 v) j).trans ?_
  have e : steps (k0_pay6 v) 8388608#32 (steps (k0_pay6 v) 16777216#32 (k0_pay7 v)) j = field (k0_pay6 v j) := by
    rw [pay7_eq]
    simp only [steps_apply]
    unfold field
    rfl
  rw [e]
  unfold scaleField
  rfl

theorem pay11_apply (a x : FVec Ideal S256x128 .f32) (b c : IVec S256x128 32) (d : IVec S256x128 1) (j : S256x128.Idx) :
    k0_pay11 a x b c d j = Ideal.ofBits .f32 (k0_pay10 a x b c d j + 8388608#32) := by
  unfold k0_pay11
  rfl

/-- A tile held to the range of the eight-bit format. -/
theorem clip_apply (w : FVec Ideal S256x128 .f32) (j : S256x128.Idx) :
    minimumf (broadcast S256x128 (Scalar.ofBits .f32 0x47600000#32)) (maximumf (broadcast S256x128 (Scalar.ofBits .f32 0xC7600000#32)) w) j
      = min (Ideal.ofBits .f32 0x47600000#32) (max (Ideal.ofBits .f32 0xC7600000#32) (w j)) := by
  rw [minimumf_apply, maximumf_apply, Ideal.minimumf_def, Ideal.maximumf_def]
  rfl

theorem inverse_apply (v : FVec Ideal S256x128 .f32) (b : IVec S256x128 32) (j : S256x128.Idx) :
    mulf v (bitcastToFloat .f32 (subi (broadcast S256x128 2122317824#32) b)) j = v j * Ideal.ofBits .f32 (2122317824#32 - b j) := by
  rw [mulf_apply, Ideal.mulf_def]
  rfl

theorem pay12_apply (v a x : FVec Ideal S256x128 .f32) (b c : IVec S256x128 32) (d : IVec S256x128 1) (j : S256x128.Idx) :
    k0_pay12 v a x b c d j = min (Ideal.ofBits .f32 0x47600000#32) (max (Ideal.ofBits .f32 0xC7600000#32)
      (v j * Ideal.ofBits .f32 (2122317824#32 - k0_pay10 a x b c d j))) := by
  rw [← inverse_apply, ← clip_apply]
  unfold k0_pay12
  rfl

theorem scaleTile_kernel (v : Vec Ideal S256x128 .bf16) (j : S256x128.Idx) :
    scaleTile v j = kernelScale (k0_pay5 v j) (k0_pay6 v j) := by
  unfold scaleTile kernelScale
  rw [pay11_apply, scaleField_kernel]

theorem codesTile_kernel (v : Vec Ideal S256x128 .bf16) (j : S256x128.Idx) :
    codesTile v j = min (Ideal.ofBits .f32 0x47600000#32) (max (Ideal.ofBits .f32 0xC7600000#32)
      (k0_pay4 v j * kernelInverse (k0_pay5 v j) (k0_pay6 v j))) := by
  unfold codesTile kernelInverse
  rw [pay12_apply, scaleField_kernel]

theorem pay6_apply (v : Vec Ideal S256x128 .bf16) (j : S256x128.Idx) : k0_pay6 v j = lead (rowGroup v (j 0)) :=
  congrArg (· * Ideal.ofBits .f32 0x37924925#32) (pay5_apply v j)

theorem pay4_apply (v : Vec Ideal S256x128 .bf16) (j : S256x128.Idx) : k0_pay4 v j = v j := by
  unfold k0_pay4
  rw [shapeCast_self]
  rfl

/-- Where the precondition holds of the tile, its scales are the rows' scales, -/
theorem scaleTile_apply (v : Vec Ideal S256x128 .bf16) (j : S256x128.Idx) (h : ∀ k, Rep (rowGroup v (j 0) k)) :
    scaleTile v j = scale (rowGroup v (j 0)) := by
  rw [scaleTile_kernel, pay5_apply, pay6_apply]
  exact (group_scale _ h).1

/-- its codes are the rows' codes, -/
theorem codesTile_apply (v : Vec Ideal S256x128 .bf16) (j : S256x128.Idx) (h : ∀ k, Rep (rowGroup v (j 0) k)) :
    codesTile v j = code (rowGroup v (j 0)) (j 1) := by
  rw [codesTile_kernel, pay5_apply, pay6_apply, pay4_apply, (group_scale _ h).2]
  rw [show v j = rowGroup v (j 0) (j 1) from congrArg v (ix2_eta (n0 := 256) (n1 := 128) j).symm]
  rfl

/-- and the tile decoded again is the rows' codes times their scales. -/
theorem wideTile_apply (v : Vec Ideal S256x128 .bf16) (j : S256x128.Idx) (h : ∀ k, Rep (rowGroup v (j 0) k)) :
    wideTile v j = wide (rowGroup v (j 0)) (j 1) := by
  have e : wideTile v = shapeCast S256x128 (fun j => codesTile v j * scaleTile v j) shapeCasts_S256x128_S256x128 := rfl
  rw [e, shapeCast_self]
  show codesTile v j * scaleTile v j = _
  rw [codesTile_apply v j h, scaleTile_apply v j h]
  rfl

end Cert.Dgrad

end
-- ==== Proof.RunA.lean ====
/- The body of the kernel at a point whose second grid coordinate is zero: run once over its skeleton, with what it
   leaves in each buffer named by the definitions of Tiles.lean. -/
module

public import proofs.«01_k».proof.Proof.Tiles
public import proofs.«01_k».proof.Proof.Gen.KernelIdeal.Launch
public import proofs.«01_k».proof.Proof.Gen.KernelIdeal.Points
public import Idealize.ShloMosaic.Lib.Ring
public import Idealize.ShloMosaic.Lib.WordCmp
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one condition: the second grid coordinate is zero. -/
abbrev cond0_0 (i : grid0.Coords) : Prop := k0_cond1 i = 1#1
/-- It holds at every fifteenth point, the first included. -/
theorem hcond0_0 : ∀ t : Fin cfg0.N, cond0_0 (grid0.coords t) ↔ t.val % 15 = 0 :=
  (fun t => by
    have ht : t.val < 360 := Nat.lt_of_lt_of_eq t.isLt N_0
    have e0 : (grid0.coords t 0).val = t.val / 15 % 24 := Pipeline.Grid.coords_val t 0 (by decide) rfl
    have e1 : (grid0.coords t 1).val = t.val / 1 % 15 := Pipeline.Grid.coords_val t 1 (by decide) rfl
    simp only [cond0_0, k0_cond1, e0, e1]
    word_cmp
   : ∀ t : Fin grid0.N, cond0_0 (grid0.coords t) ↔ t.val % 15 = 0)

-- the body is long: its run walks past the default budget
set_option maxHeartbeats 8000000 in
/-- At a first column (the branch taken) the body reads its three inputs and leaves them, and ends with the product
    block, the codes and the scales of its gradient block in the outputs, and the decoded gradient block in the scratch. -/
theorem runA (c : Dev nD) (i : grid0.Coords) (arg2 : Memref sig .tc .smem S120x18 .f32) (harg2 : arg2.IsWhole) (arg3 : Memref sig .tc .vmem S1024x2304 .bf16) (harg3 : arg3.IsWhole) (arg4 : Memref sig .tc .vmem S1024x2304 .fp8e4m3) (harg4 : arg4.IsWhole) (arg5 : Memref sig .tc .vmem S1024x1024 .bf16) (harg5 : arg5.IsWhole) (arg6 : Memref sig .tc .vmem S1024x2304 .fp8e5m2) (harg6 : arg6.IsWhole) (arg7 : Memref sig .tc .vmem S1024x18 .f32) (harg7 : arg7.IsWhole) (arg8 : Memref sig .tc .vmem S1024x2304 .bf16) (harg8 : arg8.IsWhole) (hc0 : cond0_0 i)
    (x0 : Vec F S120x18 .f32) (x1 : Vec F S1024x2304 .bf16) (x2 : Vec F S1024x2304 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare (dxOf i x0 (wideOf x1) x2) ∗ owns (c : Thread nD τ) arg6 fullShare (codesOf x1) ∗ owns (c : Thread nD τ) arg7 fullShare (scalesOf x1) ∗ owns (c : Thread nD τ) arg8 fullShare (wideOf x1)) -∗ K ⟨⟩))
          ⊢ wp frame (wpE (defs₀ (F := F)) Variants.none c none) E (cc0_dgrad i arg2 harg2 arg3 harg3 arg4 harg4 arg5 harg5 arg6 harg6 arg7 harg7 arg8 harg8) K := by
    intro E K
    simp only [cc0_dgrad_eq_skeleton]; unfold cc0_dgrad_skel
    simp only [k0_part136_eq_skeleton, k0_part134_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part135_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    have hw : ∀ f, arg8.view.read (Elt F) (arg8.view.writes (Elt F) f (runA.sl.HS0_72 c arg3 harg3 x1)) = wideOf x1 := by
      intro f
      refine read_of_pieces (S := S1024x2304) _ _ _ _ (View.cover_of_tiledL (s := S1024x2304) _ S256x128.size (by sl_kernel_rfl)) ?_
      unfold runA.sl.HS0_72
      repeat' (first | exact List.forall_mem_nil _ | refine List.forall_mem_cons.2 ⟨?_, ?_⟩)
      all_goals exact tiled_piece wideTile arg3 harg3 x1 _ (by decide) _ (by sl_kernel_rfl) rfl rfl
    have hv : runA.sl.v1165 c arg3 harg3 arg8 x1 = wideOf x1 := by
      unfold runA.sl.v1165
      exact (View.readAt_full _ _ _).trans (hw _)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_full _ _ _ _ _).trans ?_
      rw [← hv]
      unfold dxOf
      rw [← loadedWeight_eq i arg2 harg2 arg4 harg4 x0 x2]
      sl_kernel_rfl
    isplitl [H4]
    · iexists _; isplitr; swap; · iexact H4
      ipureintro
      refine read_of_pieces (S := S1024x2304) _ _ _ _ (View.cover_of_tiledL (s := S1024x2304) _ S256x128.size (by sl_kernel_rfl)) ?_
      repeat' (first | exact List.forall_mem_nil _ | refine List.forall_mem_cons.2 ⟨?_, ?_⟩)
      all_goals exact tiled_piece codesTile arg3 harg3 x1 _ (by decide) _ (by sl_kernel_rfl) rfl rfl
    isplitl [H5]
    · iexists _; isplitr; swap; · iexact H5
      ipureintro
      refine read_of_pieces (S := S1024x18) _ _ _ _ (View.cover_of_tiledL (s := S1024x18) _ S256x18.size (by sl_kernel_rfl)) ?_
      repeat' (first | exact List.forall_mem_nil _ | refine List.forall_mem_cons.2 ⟨?_, ?_⟩)
      all_goals exact scales_piece arg3 harg3 x1 _ (by decide) _ (by sl_kernel_rfl) rfl rfl
    iexists _; isplitr; swap; · iexact HS0
    ipureintro
    exact hw _

end Cert.KernelIdeal.Body

end
-- ==== Proof.RunB.lean ====
/- The body of the kernel at a point whose second grid coordinate is not zero: run once over its skeleton, with what it
   leaves in each buffer named by the definitions of Tiles.lean. -/
module

public import proofs.«01_k».proof.Proof.RunA
public import proofs.«01_k».proof.Proof.Gen.KernelIdeal.Launch
public import proofs.«01_k».proof.Proof.Gen.KernelIdeal.Points
public import Idealize.ShloMosaic.Lib.Ring
public import Idealize.ShloMosaic.Lib.WordCmp
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the body is long: its run walks past the default budget
set_option maxHeartbeats 4000000 in
/-- At any other column (the branch not taken) the body reads the weight block, its scales and the decoded gradient block
    `w` the scratch holds, and ends with the product block; every other buffer keeps what it held. -/
theorem runB (c : Dev nD) (i : grid0.Coords) (arg2 : Memref sig .tc .smem S120x18 .f32) (harg2 : arg2.IsWhole) (arg3 : Memref sig .tc .vmem S1024x2304 .bf16) (harg3 : arg3.IsWhole) (arg4 : Memref sig .tc .vmem S1024x2304 .fp8e4m3) (harg4 : arg4.IsWhole) (arg5 : Memref sig .tc .vmem S1024x1024 .bf16) (harg5 : arg5.IsWhole) (arg6 : Memref sig .tc .vmem S1024x2304 .fp8e5m2) (harg6 : arg6.IsWhole) (arg7 : Memref sig .tc .vmem S1024x18 .f32) (harg7 : arg7.IsWhole) (arg8 : Memref sig .tc .vmem S1024x2304 .bf16) (harg8 : arg8.IsWhole) (hc0 : ¬cond0_0 i)
    (x0 : Vec F S120x18 .f32) (x1 : Vec F S1024x2304 .bf16) (x2 : Vec F S1024x2304 .fp8e4m3) (y4 : Vec F S1024x2304 .fp8e5m2) (y5 : Vec F S1024x18 .f32) (w : Vec F S1024x2304 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y4 ∗ owns (c : Thread nD τ) arg7 fullShare y5 ∗ owns (c : Thread nD τ) arg8 fullShare w
            ∗ (iprop(owns (c : Thread nD τ) arg2 fullShare x0 ∗ owns (c : Thread nD τ) arg3 fullShare x1 ∗ owns (c : Thread nD τ) arg4 fullShare x2 ∗ owns (c : Thread nD τ) arg5 fullShare (dxOf i x0 w x2) ∗ owns (c : Thread nD τ) arg6 fullShare y4 ∗ owns (c : Thread nD τ) arg7 fullShare y5 ∗ owns (c : Thread nD τ) arg8 fullShare w) -∗ K ⟨⟩))
          ⊢ wp frame (wpE (defs₀ (F := F)) Variants.none c none) E (cc0_dgrad i arg2 harg2 arg3 harg3 arg4 harg4 arg5 harg5 arg6 harg6 arg7 harg7 arg8 harg8) K := by
    intro E K
    simp only [cc0_dgrad_eq_skeleton]; unfold cc0_dgrad_skel
    simp only [k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_full _ _ _ _ _).trans ?_
      have hv : View.readAt (Elt F) arg8.view (Rect.unit (s := S1024x2304) ![0, 0] S1024x2304.size inb_S1024x2304_S1024x2304_0_0).toLoadRect (harg8.unread w) = w :=
        (View.readAt_full _ _ _).trans (harg8.read_unread w)
      refine Eq.trans ?_ (congrArg (fun u => dxOf i x0 u x2) hv)
      unfold dxOf
      rw [← loadedWeight_eq i arg2 harg2 arg4 harg4 x0 x2]
      sl_kernel_rfl
    isplitl [H4]
    · iexists _; isplitr; · ipureintro; exact hf4
      iexact H4
    isplitl [H5]
    · iexists _; isplitr; · ipureintro; exact hf5
      iexact H5
    iexists _; isplitr; · ipureintro; exact harg8.read_unread _
    iexact HS0

end Cert.KernelIdeal.Body

end
-- ==== Proof.Launched.lean ====
/- The kernel's run: what its pipeline holds point by point (the proof data), the body's obligation at every point from
   the two runs of the body, and the launch. A row block of the gradient is quantised at its first column and kept, decoded, in
   the scratch buffer for the fourteen columns after it; its codes and scales stay in their output buffers until the
   last column writes them back. -/
module

public import proofs.«01_k».proof.Proof.RunB
public import Idealize.ShloMosaic.Lib.Claim
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Points and blocks -/

/-- The row block and the column of a point. -/
theorem coords_zero (t : Fin cfg0.N) : (grid0.coords t 0).val = t.val / 15 := by
  have ht : t.val < 360 := Nat.lt_of_lt_of_eq t.isLt N_0
  exact (Pipeline.Grid.coords_val t 0 (by decide) rfl : _ = t.val / 15 % 24).trans (by omega)
theorem coords_one (t : Fin cfg0.N) : (grid0.coords t 1).val = t.val % 15 :=
  (Pipeline.Grid.coords_val t 1 (by decide) rfl : _ = t.val / 1 % 15).trans (by rw [Nat.div_one])

/-- Where each window's block lies at each point. -/
theorem index_0 : ∀ t : Fin cfg0.N, win0_0.index t = ![0, 0] := (fun _ => rfl : ∀ t : Fin grid0.N, win0_0.index t = ![0, 0])
theorem index_1 : ∀ t : Fin cfg0.N, win0_1.index t = ![t.val / 15, 0] := by decide +kernel
theorem index_2 : ∀ t : Fin cfg0.N, win0_2.index t = ![t.val % 15, 0] := by decide +kernel
theorem index_3 : ∀ t : Fin cfg0.N, win0_3.index t = ![t.val / 15, t.val % 15] := by decide +kernel
theorem index_4 : ∀ t : Fin cfg0.N, win0_4.index t = ![t.val / 15, 0] := by decide +kernel
theorem index_5 : ∀ t : Fin cfg0.N, win0_5.index t = ![t.val / 15, 0] := by decide +kernel

/-- Row block `n` of the gradient, -/
def gradRows (X : Vec F S24576x2304 .bf16) (n : Fin 24) : Vec F S1024x2304 .bf16 := fun y =>
  X (ix2 ⟨1024 * n.val + (y 0).val, by have : (y 0).val < 1024 := (y 0).isLt; omega⟩ (y 1))
/-- and of the weight. -/
def weightRows (W : Vec F S15360x2304 .fp8e4m3) (n : Fin 15) : Vec F S1024x2304 .fp8e4m3 := fun y =>
  W (ix2 ⟨1024 * n.val + (y 0).val, by have : (y 0).val < 1024 := (y 0).isLt; omega⟩ (y 1))

/-- The row block of a point, and its column. -/
def rowOf (t : Fin cfg0.N) : Fin 24 := ⟨t.val / 15, by have : t.val < 360 := Nat.lt_of_lt_of_eq t.isLt N_0; omega⟩
def colOf (t : Fin cfg0.N) : Fin 15 := ⟨t.val % 15, Nat.mod_lt _ (by decide)⟩

variable (m : (ℓ : Loc nD τ sig) → Buf (Elt F) ℓ) (ρ : Dev nD → PrngReg)

/-- The first window's block is the whole table of weight scales at every point, -/
theorem iblk_0 (c : Dev nD) (t : Fin cfg0.N) : iblk m c 0 t = (V m c main_arg2 : Vec F S120x18 .f32) := by
  funext y
  unfold iblk
  blk_simp
  exact congrArg (V m c main_arg2 : Vec F S120x18 .f32) (funext fun d => match d with
    | ⟨0, _⟩ => Fin.ext (by blk_simp [index_0])
    | ⟨1, _⟩ => Fin.ext (by blk_simp [index_0]))
/-- the second's the gradient's row block, -/
theorem iblk_1 (c : Dev nD) (t : Fin cfg0.N) : iblk m c 1 t = gradRows (V m c main_v0) (rowOf t) := by
  funext y
  unfold iblk
  blk_simp
  exact congrArg (V m c main_v0 : Vec F S24576x2304 .bf16) (funext fun d => match d with
    | ⟨0, _⟩ => Fin.ext (by blk_simp [index_1]; show t.val / 15 * 1024 + (y 0).val = 1024 * (t.val / 15) + (y 0).val; omega)
    | ⟨1, _⟩ => Fin.ext (by blk_simp [index_1]; rfl))
/-- and the third's the weight's row block of the point's column. -/
theorem iblk_2 (c : Dev nD) (t : Fin cfg0.N) : iblk m c 2 t = weightRows (V m c main_arg1) (colOf t) := by
  funext y
  unfold iblk
  blk_simp
  exact congrArg (V m c main_arg1 : Vec F S15360x2304 .fp8e4m3) (funext fun d => match d with
    | ⟨0, _⟩ => Fin.ext (by blk_simp [index_2]; show t.val % 15 * 1024 + (y 0).val = 1024 * (t.val % 15) + (y 0).val; omega)
    | ⟨1, _⟩ => Fin.ext (by blk_simp [index_2]; rfl))

/-! ## The proof data -/

/-- What the scratch holds before point `k`: at the first column of a row block, and after the last point, anything; else the
    decoded row block of the point. -/
def held (c : Dev nD) (k : Fin (cfg0.N + 1)) : sProp 𝕄 :=
  if h : k.val % 15 = 0 ∨ cfg0.N ≤ k.val then iprop(∃ d, owns (c : Thread nD τ) (Memref.whole cc0_scratch0) fullShare d)
  else owns (c : Thread nD τ) (Memref.whole cc0_scratch0) fullShare (wideOf (gradRows (V m c main_v0) (rowOf ⟨k.val, Nat.lt_of_not_le fun e => h (Or.inr e)⟩)))

/-- The arrays as the region finds them; after the body at a point, each input's buffer at its block and each output's at
    what the body's runs leave there; the scratch as `held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dxOf (grid0.coords t) (V m c main_arg2) (wideOf (gradRows (V m c main_v0) (rowOf t))) (weightRows (V m c main_arg1) (colOf t))
    | ⟨4, _⟩ => codesOf (gradRows (V m c main_v0) (rowOf t))
    | ⟨5, _⟩ => scalesOf (gradRows (V m c main_v0) (rowOf t))
  Φ k := iprop(held m c k ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = dxOf (grid0.coords t) (V m c main_arg2) (wideOf (gradRows (V m c main_v0) (rowOf t))) (weightRows (V m c main_arg1) (colOf t)) := by dsimp only [dats]
theorem after0_4 (c : Dev nD) (t : Fin cfg0.N) : (dats m 0 c).after 4 t = codesOf (gradRows (V m c main_v0) (rowOf t)) := by dsimp only [dats]
theorem after0_5 (c : Dev nD) (t : Fin cfg0.N) : (dats m 0 c).after 5 t = scalesOf (gradRows (V m c main_v0) (rowOf t)) := by dsimp only [dats]

/-- Each input's buffer holds its block before every point. -/
theorem before0_0 (c : Dev nD) (t : Fin cfg0.N) (d) : (dats m 0 c).before 0 t d = (V m c main_arg2 : Vec F S120x18 .f32) :=
  (before0_0_of m (dats m 0 c) (A_eq m c 0) (after0_0 m c) t d).trans (iblk_0 m c t)
theorem before0_1 (c : Dev nD) (t : Fin cfg0.N) (d) : (dats m 0 c).before 1 t d = gradRows (V m c main_v0) (rowOf t) :=
  (before0_1_of m (dats m 0 c) (A_eq m c 1) (after0_1 m c) t d).trans (iblk_1 m c t)
theorem before0_2 (c : Dev nD) (t : Fin cfg0.N) (d) : (dats m 0 c).before 2 t d = weightRows (V m c main_arg1) (colOf t) :=
  (before0_2_of m (dats m 0 c) (A_eq m c 2) (after0_2 m c) t d).trans (iblk_2 m c t)

/-- Past a row block's first column the point before lies in the same row block, -/
theorem rowOf_pred (t : Fin cfg0.N) (h : ¬ t.val % 15 = 0) : rowOf ⟨t.val - 1, Nat.lt_of_le_of_lt (Nat.sub_le _ _) t.isLt⟩ = rowOf t :=
  Fin.ext (show (t.val - 1) / 15 = t.val / 15 by omega)
/-- The codes and the scales are stored at first columns only. -/
theorem idle_later (t : Fin cfg0.N) (h : (!(k0_cond1 (grid0.coords t) == 1#1)) = true) : ¬ t.val % 15 = 0 := fun e => by
  rw [show k0_cond1 (grid0.coords t) = 1#1 from (hcond0_0 t).mpr e] at h; exact absurd h (by decide)

/-- An output stored at first columns only, written back at last columns, holds past the first column what was stored there. -/
theorem before_later (c : Dev nD) (w : Fin cfg0.W) (hout : (cfg0.win w).isOut = true)
    (hflush : ∀ t : Fin cfg0.N, (cfg0.win w).flush t = true ↔ t.val % 15 = 14)
    (hidle : ∀ t : Fin cfg0.N, cfg0.idle w (cfg0.grid.coords t) = true → ¬ t.val % 15 = 0)
    (hclip : ∀ (i : cfg0.grid.Coords) a, (cfg0.win w).clip i a = none)
    (hafter : ∀ t t' : Fin cfg0.N, rowOf t = rowOf t' → (dats m 0 c).after w t = (dats m 0 c).after w t') :
    ∀ (n : Nat) (t : Fin cfg0.N), t.val = n → ¬ t.val % 15 = 0 → ∀ d, (dats m 0 c).before w t d = (dats m 0 c).after w t := by
  intro n
  induction n with
  | zero => exact fun t e h => absurd (by rw [e]) h
  | succ n ih =>
    intro t e h d
    have hfetch : (cfg0.win w).fetch t = false := by unfold Pipeline.Window.fetch; rw [hout]; rfl
    rw [Dat.before_of_pos _ w t (by omega) hfetch d, if_neg (fun f => by have := (hflush _).mp f; dsimp only at this; omega),
      hafter t ⟨t.val - 1, Nat.lt_of_le_of_lt (Nat.sub_le _ _) t.isLt⟩ (rowOf_pred t h).symm]
    unfold Dat.left
    cases hi : cfg0.idle w (cfg0.grid.coords ⟨t.val - 1, Nat.lt_of_le_of_lt (Nat.sub_le _ _) t.isLt⟩)
    · dsimp only
      unfold Dat.kept
      rw [Pipeline.fill_of_clip_none w _ (hclip _) d ((dats m 0 c).after w _), Pipeline.Window.fill_cut]
    · exact ih _ (by show t.val - 1 = n; omega) (hidle _ hi) d

/-- So past the first column the codes' buffer holds the row block's codes, -/
theorem before0_4 (c : Dev nD) (t : Fin cfg0.N) (h : ¬ t.val % 15 = 0) (d) :
    (dats m 0 c).before 4 t d = codesOf (gradRows (V m c main_v0) (rowOf t)) :=
  (before_later m c 4 rfl flush0_4 idle_later (fun _ _ => rfl) (fun t t' e => by rw [after0_4, after0_4, e]) _ t rfl h d).trans (after0_4 m c t)
/-- and the scales' buffer its scales. -/
theorem before0_5 (c : Dev nD) (t : Fin cfg0.N) (h : ¬ t.val % 15 = 0) (d) :
    (dats m 0 c).before 5 t d = scalesOf (gradRows (V m c main_v0) (rowOf t)) :=
  (before_later m c 5 rfl flush0_5 idle_later (fun _ _ => rfl) (fun t t' e => by rw [after0_5, after0_5, e]) _ t rfl h d).trans (after0_5 m c t)

/-- Before a first column the scratch is held at some contents, -/
theorem held_first (c : Dev nD) (t : Fin cfg0.N) (h : t.val % 15 = 0) :
    held m c t.castSucc = iprop(∃ d, owns (c : Thread nD τ) (Memref.whole cc0_scratch0) fullShare d) := by
  unfold held; exact dif_pos (Or.inl h)
/-- before any other column at the decoded row block. -/
theorem held_later (c : Dev nD) (t : Fin cfg0.N) (h : ¬ t.val % 15 = 0) :
    held m c t.castSucc = owns (c : Thread nD τ) (Memref.whole cc0_scratch0) fullShare (wideOf (gradRows (V m c main_v0) (rowOf t))) := by
  unfold held; exact dif_neg (fun e => e.elim h fun e => absurd t.isLt (Nat.not_lt.mpr e))
/-- The scratch at the point's decoded row block is what the next point wants. -/
theorem held_next (c : Dev nD) (t : Fin cfg0.N) :
    owns (c : Thread nD τ) (Memref.whole cc0_scratch0) fullShare (wideOf (gradRows (V m c main_v0) (rowOf t))) ⊢ held m c t.succ := by
  by_cases h : t.succ.val % 15 = 0 ∨ cfg0.N ≤ t.succ.val
  · rw [show held m c t.succ = iprop(∃ d, owns (c : Thread nD τ) (Memref.whole cc0_scratch0) fullShare d) from dif_pos h]
    iintro H; iexists _; iexact H
  · have e : rowOf ⟨t.succ.val, Nat.lt_of_not_le fun e => h (Or.inr e)⟩ = rowOf t :=
      Fin.ext (show (t.val + 1) / 15 = t.val / 15 by have : ¬ (t.val + 1) % 15 = 0 := fun e => h (Or.inl e); omega)
    rw [show held m c t.succ = owns (c : Thread nD τ) (Memref.whole cc0_scratch0) fullShare
      (wideOf (gradRows (V m c main_v0) (rowOf ⟨t.succ.val, Nat.lt_of_not_le fun e => h (Or.inr e)⟩))) from dif_neg h, e]

/-- The library's invariant for the region: the scratch at some contents and the generator's register. -/
theorem PhiA0_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window's buffer at what the body leaves there. -/
theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- The same for an output that some points leave as they find it, if they find there what it is to hold. -/
theorem leaves_of (c : Dev nD) (t : Fin cfg0.N) (w : Fin cfg0.W)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t)
  · iintro H; iexact H
  · cases (cfg0.win w).flush t
    · dsimp only
      iintro H; iexists ((dats m 0 c).after w t); rw [h hi]; iexact H
    · iintro H; iexact H

theorem leaves_4 (c : Dev nD) (t : Fin cfg0.N) :
    owns (c : Thread nD τ) (st0_4 t) fullShare (codesOf (gradRows (V m c main_v0) (rowOf t))) ⊢ (dats m 0 c).leavesExact 4 t := by
  rw [← after0_4]
  exact leaves_of m c t 4 fun hi d => (before0_4 m c t (idle_later t hi) d).trans (after0_4 m c t).symm
theorem leaves_5 (c : Dev nD) (t : Fin cfg0.N) :
    owns (c : Thread nD τ) (st0_5 t) fullShare (scalesOf (gradRows (V m c main_v0) (rowOf t))) ⊢ (dats m 0 c).leavesExact 5 t := by
  rw [← after0_5]
  exact leaves_of m c t 5 fun hi d => (before0_5 m c t (idle_later t hi) d).trans (after0_5 m c t).symm

set_option maxHeartbeats 1600000 in
/-- The body at any point takes what it is called with to what it returns: by the run of its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = iprop(held m c t.succ ∗ (∃ r, prngReg c r)) from rfl,
    show (dats m 0 c).Φ t.castSucc = iprop(held m c t.castSucc ∗ (∃ r, prngReg c r)) from rfl]
  rw [leaves m c t 0 rfl, leaves m c t 1 rfl, leaves m c t 2 rfl, leaves m c t 3 rfl,
    after0_0, after0_1, after0_2, after0_3, iblk_0, iblk_1, iblk_2]
  by_cases h0 : t.val % 15 = 0
  · rw [held_first m c t h0]
    iintro ⟨⟨HS0, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ ((hcond0_0 t).mpr h0) (V m c main_arg2) (gradRows (V m c main_v0) (rowOf t)) (weightRows (V m c main_arg1) (colOf t))) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iapply (held_next m c t); iexact HS0
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    iapply (leaves_5 m c t); iexact H5
  · simp only [before0_4 m c t h0, before0_5 m c t h0]
    rw [held_later m c t h0]
    iintro ⟨⟨HS0, Hg⟩, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ (fun h => h0 ((hcond0_0 t).mp h)) (V m c main_arg2) (gradRows (V m c main_v0) (rowOf t)) (weightRows (V m c main_arg1) (colOf t))
      (codesOf (gradRows (V m c main_v0) (rowOf t))) (scalesOf (gradRows (V m c main_v0) (rowOf t))) (wideOf (gradRows (V m c main_v0) (rowOf t)))) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]
      · iapply (held_next m c t); iexact HS0
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    iapply (leaves_5 m c t); iexact H5

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem held_in (c : Dev nD) : (Pipeline.ΦA spec0 c : sProp 𝕄) ⊢ (dats m 0 c).Φ 0 := by
  rw [show (dats m 0 c).Φ 0 = iprop(held m c 0 ∗ (∃ r, prngReg c r)) from rfl, PhiA0_eq,
    show held m c 0 = iprop(∃ d, owns (c : Thread nD τ) (Memref.whole cc0_scratch0) fullShare d) from dif_pos (Or.inl rfl)]

theorem held_out (c : Dev nD) : (dats m 0 c).Φ (Fin.last cfg0.N) ⊢ (Pipeline.ΦA spec0 c : sProp 𝕄) := by
  rw [show (dats m 0 c).Φ (Fin.last cfg0.N) = iprop(held m c (Fin.last cfg0.N) ∗ (∃ r, prngReg c r)) from rfl, PhiA0_eq,
    show held m c (Fin.last cfg0.N) = iprop(∃ d, owns (c : Thread nD τ) (Memref.whole cc0_scratch0) fullShare d) from dif_pos (Or.inr le_rfl)]

set_option backward.isDefEq.respectTransparency.types false in
/-- Every weakly fair execution ends, with each array of the pipeline at what its write-backs leave, every other buffer
    as the region found it, and every semaphore counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := held_in m) (hout := held_out m)

/-- The arguments end as they began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Body

end
-- ==== Proof.Arrays.lean ====
/- The three results over the extended reals as functions of the whole arrays, one formula for each place; and that the
   kernel's three result arrays hold them after the run. -/
module

public import proofs.«01_k».proof.Proof.Group
public import proofs.«01_k».proof.Proof.Launched

@[expose] public section

set_option maxRecDepth 16384

noncomputable section

namespace Cert.Dgrad

open Idealize.ShloMosaic Idealize.ShloMosaic.TcCoe Idealize.ShloMosaic.Tactic
open Idealize.SL.Sem
open Cert.KernelIdeal Cert.KernelIdeal.Gen Cert.KernelIdeal.Body

/-! ## The results, place by place -/

/-- Group `g` of row `r` of the gradient. -/
def grp (X : Vec Ideal S24576x2304 .bf16) (r : Fin 24576) (g : Fin 18) : Fin 128 → EReal := fun k =>
  X (ix2 r ⟨128 * g.val + k.val, by omega⟩)

/-- The group and the lane of a column. -/
def groupOf (o : Fin 2304) : Fin 18 := ⟨o.val / 128, by omega⟩
def laneOf (o : Fin 2304) : Fin 128 := ⟨o.val % 128, Nat.mod_lt _ (by decide)⟩

/-- The scales, one for each row and group, -/
def scaleAll (X : Vec Ideal S24576x2304 .bf16) : Vec Ideal S24576x18 .f32 := fun y => scale (grp X (y 0) (y 1))
/-- the codes, -/
def codeAll (X : Vec Ideal S24576x2304 .bf16) : Vec Ideal S24576x2304 .fp8e5m2 := fun y =>
  code (grp X (y 0) (groupOf (y 1))) (laneOf (y 1))
/-- an entry of the gradient decoded again, -/
def wideAt (X : Vec Ideal S24576x2304 .bf16) (r : Fin 24576) (o : Fin 2304) : EReal := wide (grp X r (groupOf o)) (laneOf o)
/-- an entry of the weight times the scale of its 128 by 128 block, -/
def weightAt (W : Vec Ideal S15360x2304 .fp8e4m3) (S : Vec Ideal S120x18 .f32) (n : Fin 15360) (o : Fin 2304) : EReal :=
  W (ix2 n o) * S (ix2 ⟨n.val / 128, by omega⟩ (groupOf o))
/-- and the gradient of the input: the sum of their products over the output's columns. -/
def dxAll (X : Vec Ideal S24576x2304 .bf16) (W : Vec Ideal S15360x2304 .fp8e4m3) (S : Vec Ideal S120x18 .f32) :
    Vec Ideal S24576x15360 .bf16 := fun y => ∑ o : Fin 2304, wideAt X (y 0) o * weightAt W S (y 1) o

/-! ## The kernel's blocks -/

/-- A row of a tile of a row block is a group of the gradient's row. -/
theorem rowGroup_tile (X : Vec Ideal S24576x2304 .bf16) (n : Fin 24) (a : Fin 4) (b : Fin 18) (j : Fin 256) (r : Fin 24576)
    (hr : r.val = 1024 * n.val + (256 * a.val + j.val)) : rowGroup (tile (gradRows X n) a b) j = grp X r b := by
  funext k
  exact congrArg X (ix2_congr hr.symm rfl)

section Blocks

variable (X : Vec Ideal S24576x2304 .bf16) (hX : ∀ y, Rep (X y)) (n : Fin 24)

include hX

theorem rep_rowGroup (a : Fin 4) (b : Fin 18) (j : Fin 256) (k : Fin 128) : Rep (rowGroup (tile (gradRows X n) a b) j k) := hX _

/-- The codes of row block `n` are the gradient's codes in those rows, -/
theorem codesOf_apply (y : S1024x2304.Idx) (r : Fin 24576) (hr : r.val = 1024 * n.val + (y 0).val) :
    codesOf (gradRows X n) y = codeAll X (ix2 r (y 1)) := by
  have y0 : (y 0).val < 1024 := (y 0).isLt
  unfold codesOf tiled
  refine (codesTile_apply _ _ (rep_rowGroup X hX n _ _ _)).trans ?_
  exact congrArg (fun v => code v (laneOf (y 1)))
    (rowGroup_tile X n _ _ _ r (by show r.val = 1024 * n.val + (256 * ((y 0).val / 256) + (y 0).val % 256); omega))

/-- its entries decoded again are the gradient's, -/
theorem wideOf_apply (y : S1024x2304.Idx) (r : Fin 24576) (hr : r.val = 1024 * n.val + (y 0).val) :
    wideOf (gradRows X n) y = wideAt X r (y 1) := by
  have y0 : (y 0).val < 1024 := (y 0).isLt
  unfold wideOf tiled
  refine (wideTile_apply _ _ (rep_rowGroup X hX n _ _ _)).trans ?_
  exact congrArg (fun v => wide v (laneOf (y 1)))
    (rowGroup_tile X n _ _ _ r (by show r.val = 1024 * n.val + (256 * ((y 0).val / 256) + (y 0).val % 256); omega))

/-- and its scales are the gradient's. -/
theorem scalesOf_apply (y : S1024x18.Idx) (r : Fin 24576) (hr : r.val = 1024 * n.val + (y 0).val) :
    scalesOf (gradRows X n) y = scaleAll X (ix2 r (y 1)) := by
  have y0 : (y 0).val < 1024 := (y 0).isLt
  unfold scalesOf
  refine (scaleTile_apply _ _ (rep_rowGroup X hX n _ _ _)).trans ?_
  exact congrArg scale
    (rowGroup_tile X n _ _ _ r (by show r.val = 1024 * n.val + (256 * ((y 0).val / 256) + (y 0).val % 256); omega))

omit hX in
/-- The decoded weight block of a grid column is the decoded weight in those rows. -/
theorem weightOf_apply (i : grid0.Coords) (W : Vec Ideal S15360x2304 .fp8e4m3) (S : Vec Ideal S120x18 .f32) (k : Fin 15)
    (hk : (i 1).val = k.val) (y : S1024x2304.Idx) (q : Fin 15360) (hq : q.val = 1024 * k.val + (y 0).val) :
    weightOf i S (weightRows W k) y = weightAt W S q (y 1) := by
  have y0 : (y 0).val < 1024 := (y 0).isLt
  have y1 : (y 1).val < 2304 := (y 1).isLt
  have e (v : Vec Ideal S128x128 .fp8e4m3) (s : Elt Ideal .f32) (j : S128x128.Idx) : weightTile v s j = v j * s := rfl
  unfold weightOf
  rw [e]
  unfold weightAt
  refine congrArg₂ (· * ·) (congrArg W (ix2_congr ?_ ?_)) (congrArg S (ix2_congr ?_ ?_))
  · show 1024 * k.val + (128 * ((y 0).val / 128) + (y 0).val % 128) = q.val; omega
  · show 128 * ((y 1).val / 128) + (y 1).val % 128 = (y 1).val; omega
  · show 8 * (i 1).val + (y 0).val / 128 = q.val / 128; omega
  · rfl

/-- The body's block of the result is the result in those rows and columns. -/
theorem dxOf_apply (i : grid0.Coords) (W : Vec Ideal S15360x2304 .fp8e4m3) (S : Vec Ideal S120x18 .f32) (k : Fin 15)
    (hk : (i 1).val = k.val) (y : S1024x1024.Idx) (r : Fin 24576) (hr : r.val = 1024 * n.val + (y 0).val)
    (q : Fin 15360) (hq : q.val = 1024 * k.val + (y 1).val) :
    dxOf i S (wideOf (gradRows X n)) (weightRows W k) y = dxAll X W S (ix2 r q) := by
  have e : dxOf i S (wideOf (gradRows X n)) (weightRows W k) y
      = ∑ o : Fin 2304, wideOf (gradRows X n) (ix2 (y 0) o) * weightOf i S (weightRows W k) (ix2 (y 1) o) := by
    unfold dxOf
    generalize wideOf (gradRows X n) = A
    generalize weightOf i S (weightRows W k) = B
    pointwise
  rw [e]
  unfold dxAll
  refine Finset.sum_congr rfl fun o _ => ?_
  rw [wideOf_apply X hX n _ r hr, weightOf_apply i W S k hk _ q hq]
  rfl

end Blocks

/-! ## The kernel's arrays after the run: what each point leaves, then the whole arrays -/

section Run

variable (m : (ℓ : Loc nD τ sig) → Buf (Elt Ideal) ℓ) (c : Dev nD) (hX : ∀ y, Rep ((V m c main_v0 : Vec Ideal S24576x2304 .bf16) y))

include hX

theorem at_dx (t : Fin cfg0.N) (y : S1024x1024.Idx) :
    dxOf (grid0.coords t) (V m c main_arg2) (wideOf (gradRows (V m c main_v0) (rowOf t))) (weightRows (V m c main_arg1) (colOf t)) y
      = dxAll (V m c main_v0) (V m c main_arg1) (V m c main_arg2) ((win0_3.blk t).view.emb y) := by
  have h0 : (((win0_3.blk t).view.emb y 0 : Fin 24576) : ℕ) = 1024 * (rowOf t).val + (y 0).val := by
    blk_simp [index_3]; show t.val / 15 * 1024 + (y 0).val = 1024 * (t.val / 15) + (y 0).val; omega
  have h1 : (((win0_3.blk t).view.emb y 1 : Fin 15360) : ℕ) = 1024 * (colOf t).val + (y 1).val := by
    blk_simp [index_3]; show t.val % 15 * 1024 + (y 1).val = 1024 * (t.val % 15) + (y 1).val; omega
  exact (dxOf_apply _ hX (rowOf t) (grid0.coords t) _ _ (colOf t) (coords_one t) y _ h0 _ h1).trans
    (congrArg (dxAll (V m c main_v0) (V m c main_arg1) (V m c main_arg2)) (ix2_eta (n0 := 24576) (n1 := 15360) _))

theorem at_codes (t : Fin cfg0.N) (y : S1024x2304.Idx) :
    codesOf (gradRows (V m c main_v0) (rowOf t)) y = codeAll (V m c main_v0) ((win0_4.blk t).view.emb y) := by
  have h0 : (((win0_4.blk t).view.emb y 0 : Fin 24576) : ℕ) = 1024 * (rowOf t).val + (y 0).val := by
    blk_simp [index_4]; show t.val / 15 * 1024 + (y 0).val = 1024 * (t.val / 15) + (y 0).val; omega
  have h1 : (((win0_4.blk t).view.emb y 1 : Fin 2304) : ℕ) = (y 1).val := by blk_simp [index_4]
  refine (codesOf_apply _ hX (rowOf t) y _ h0).trans (congrArg (codeAll (V m c main_v0)) ?_)
  rw [← ix2_eta (n0 := 24576) (n1 := 2304) ((win0_4.blk t).view.emb y)]
  exact ix2_congr rfl h1.symm

theorem at_scales (t : Fin cfg0.N) (y : S1024x18.Idx) :
    scalesOf (gradRows (V m c main_v0) (rowOf t)) y = scaleAll (V m c main_v0) ((win0_5.blk t).view.emb y) := by
  have h0 : (((win0_5.blk t).view.emb y 0 : Fin 24576) : ℕ) = 1024 * (rowOf t).val + (y 0).val := by
    blk_simp [index_5]; show t.val / 15 * 1024 + (y 0).val = 1024 * (t.val / 15) + (y 0).val; omega
  have h1 : (((win0_5.blk t).view.emb y 1 : Fin 18) : ℕ) = (y 1).val := by blk_simp [index_5]
  refine (scalesOf_apply _ hX (rowOf t) y _ h0).trans (congrArg (scaleAll (V m c main_v0)) ?_)
  rw [← ix2_eta (n0 := 24576) (n1 := 18) ((win0_5.blk t).view.emb y)]
  exact ix2_congr rfl h1.symm

/-- The first result holds the gradient of the input, -/
theorem arr_dx : (dats m 0 c).arrAt 3 cfg0.N = dxAll (V m c main_v0) (V m c main_arg1) (V m c main_arg2) :=
  (dats m 0 c).arrAt_eq_of_covers 3 _ (by decide +kernel) fun t _ y =>
    (cast_eq _ _).trans ((congrFun (after0_3 m c t) y).trans (at_dx m c hX t y))

/-- the second the codes, -/
theorem arr_codes : (dats m 0 c).arrAt 4 cfg0.N = codeAll (V m c main_v0) :=
  (dats m 0 c).arrAt_eq_of_covers 4 _ (by decide +kernel) fun t _ y =>
    (cast_eq _ _).trans ((congrFun (after0_4 m c t) y).trans (at_codes m c hX t y))

/-- and the third the scales. -/
theorem arr_scales : (dats m 0 c).arrAt 5 cfg0.N = scaleAll (V m c main_v0) :=
  (dats m 0 c).arrAt_eq_of_covers 5 _ (by decide +kernel) fun t _ y =>
    (cast_eq _ _).trans ((congrFun (after0_5 m c t) y).trans (at_scales m c hX t y))

end Run

end Cert.Dgrad

end
-- ==== Proof.RefArrays.lean ====
/- The reference's three results over the extended reals: read place by place, they are the formulas of the whole arrays
   that the kernel's results are. The reference is one call on whole arrays, so each of its results is one store. -/
module

public import proofs.«01_k».proof.Proof.Arrays
public import proofs.«01_k».proof.Proof.Gen.ReferenceIdeal.Frame

@[expose] public section

set_option maxRecDepth 16384

noncomputable section

namespace Cert.Dgrad.Ref

open Idealize.ShloMosaic Idealize.ShloMosaic.TcCoe Idealize.ShloMosaic.Tactic
open Idealize.SL.Sem
open Cert.ReferenceIdeal Cert.ReferenceIdeal.Gen
open Cert.Dgrad

/-! ## The reshapes, at an index -/

section Casts

variable {α : Type}

/-- The row split into groups, -/
theorem cast_split (x : S24576x2304.Idx → α) (h : S24576x2304.ShapeCasts S24576x18x128) (r : Fin 24576) (g : Fin 18) (k : Fin 128) :
    shapeCast S24576x18x128 x h (ix3 r g k) = x (ix2 r ⟨128 * g.val + k.val, by omega⟩) := by
  refine congrArg x (Shape.reshapeEquiv_eq_of_vals h _ _ _ _ (rowMajor_val2 _ 2304 rfl) (rowMajor_val3 _ 2304 128 rfl rfl) ?_)
  show r.val * 2304 + (128 * g.val + k.val) = r.val * 2304 + g.val * 128 + k.val
  omega

/-- and the groups joined into the row. -/
theorem cast_join (x : S24576x18x128.Idx → α) (h : S24576x18x128.ShapeCasts S24576x2304) (r : Fin 24576) (o : Fin 2304) :
    shapeCast S24576x2304 x h (ix2 r o) = x (ix3 r (groupOf o) (laneOf o)) := by
  refine congrArg x (Shape.reshapeEquiv_eq_of_vals h _ _ _ _ (rowMajor_val3 _ 2304 128 rfl rfl) (rowMajor_val2 _ 2304 rfl) ?_)
  show r.val * 2304 + o.val / 128 * 128 + o.val % 128 = r.val * 2304 + o.val
  omega

/-- The weight split into blocks, -/
theorem cast_blocks (x : S15360x2304.Idx → α) (h : S15360x2304.ShapeCasts S120x128x18x128) (a : Fin 120) (b : Fin 128) (g : Fin 18) (k : Fin 128) :
    shapeCast S120x128x18x128 x h (ix4 a b g k) = x (ix2 ⟨128 * a.val + b.val, by omega⟩ ⟨128 * g.val + k.val, by omega⟩) := by
  refine congrArg x (Shape.reshapeEquiv_eq_of_vals h _ _ _ _ (rowMajor_val2 _ 2304 rfl) (rowMajor_val4 _ 294912 2304 128 rfl rfl rfl) ?_)
  show (128 * a.val + b.val) * 2304 + (128 * g.val + k.val) = a.val * 294912 + b.val * 2304 + g.val * 128 + k.val
  omega

/-- and the blocks joined into the weight. -/
theorem cast_whole (x : S120x128x18x128.Idx → α) (h : S120x128x18x128.ShapeCasts S15360x2304) (n : Fin 15360) (o : Fin 2304) :
    shapeCast S15360x2304 x h (ix2 n o)
      = x (ix4 ⟨n.val / 128, by omega⟩ ⟨n.val % 128, Nat.mod_lt _ (by decide)⟩ (groupOf o) (laneOf o)) := by
  refine congrArg x (Shape.reshapeEquiv_eq_of_vals h _ _ _ _ (rowMajor_val4 _ 294912 2304 128 rfl rfl rfl) (rowMajor_val2 _ 2304 rfl) ?_)
  show n.val / 128 * 294912 + n.val % 128 * 2304 + o.val / 128 * 128 + o.val % 128 = n.val * 2304 + o.val
  omega

/-- A number for each row and group, spread over the group's lanes, -/
theorem spread_lanes (x : S24576x18.Idx → α) (h : S24576x18.ShapeCasts S24576x18x1) (h' : S24576x18x1.Broadcasts S24576x18x128)
    (r : Fin 24576) (g : Fin 18) (k : Fin 128) :
    broadcastTo S24576x18x128 (shapeCast S24576x18x1 x h) h' (ix3 r g k) = x (ix2 r g) := by
  pointwise

/-- and a number for each block of the weight, spread over the block. -/
theorem spread_blocks (x : S120x18.Idx → α) (h : S120x18.ShapeCasts S120x1x18x1) (h' : S120x1x18x1.Broadcasts S120x128x18x128)
    (a : Fin 120) (b : Fin 128) (g : Fin 18) (k : Fin 128) :
    broadcastTo S120x128x18x128 (shapeCast S120x1x18x1 x h) h' (ix4 a b g k) = x (ix2 a g) := by
  pointwise

end Casts

/-! ## The reference's values, at an index -/

variable (X : Vec Ideal S24576x2304 .bf16) (W : Vec Ideal S15360x2304 .fp8e4m3) (S : Vec Ideal S120x18 .f32)

theorem pay3_apply (r : Fin 24576) (g : Fin 18) (k : Fin 128) : k0_pay3 X (ix3 r g k) = grp X r g k := by
  unfold k0_pay3
  refine (cast_split _ _ r g k).trans ?_
  rw [shapeCast_self]
  rfl

/-- The greatest size in a group. -/
theorem top_apply (v : FVec Ideal S24576x18x128 .f32) (r : Fin 24576) (g : Fin 18) :
    multiReduction .maximumf [2] S24576x18 (absf v) 0xFF800000#32 reduces_S24576x18x128_S24576x18 (.inl rfl) rfl (ix2 r g)
      = amax fun k => v (ix3 r g k) := by
  unfold amax
  pointwise
  rfl

/-- The greatest size in each group, times the reciprocal of 57344. -/
def leads : FVec Ideal S24576x18 .f32 :=
  mulf (multiReduction .maximumf [2] S24576x18 (absf (k0_pay3 X)) 0xFF800000#32 reduces_S24576x18x128_S24576x18 (.inl rfl) rfl)
    (broadcast S24576x18 (Scalar.ofBits .f32 0x37924925#32))

theorem leads_apply (r : Fin 24576) (g : Fin 18) : leads X (ix2 r g) = lead (grp X r g) := by
  have e : (fun k : Fin 128 => k0_pay3 X (ix3 r g k)) = grp X r g := funext fun k => pay3_apply X r g k
  unfold leads lead
  rw [mulf_apply, top_apply, e, Ideal.mulf_def]
  rfl

/-- The exponent of each number of an array. -/
def exponents (x : FVec Ideal S24576x18 .f32) : FVec Ideal S24576x18 .f32 :=
  select (ori (cmpf .olt x (broadcast S24576x18 (Scalar.ofBits .f32 0x00800000#32))) (cmpf .oeq x (broadcast S24576x18 (Scalar.ofBits .f32 0x7F800000#32))))
    (broadcast S24576x18 (Scalar.ofBits .f32 0x00000000#32))
    (addf (floor (divf (log x) (broadcast S24576x18 (Named.named (F := Ideal) κ "ln2" (φ := .f32) 0x3F317218#32)))) (broadcast S24576x18 (Scalar.ofBits .f32 0x3F800000#32)))

theorem exponents_apply (x : FVec Ideal S24576x18 .f32) (i : S24576x18.Idx) : exponents x i = exponent (x i) := by
  unfold exponents
  rfl

theorem pay4_eq : k0_pay4 (F := Ideal) X = exponents (leads X) := by
  sl_kernel_rfl

theorem pay4_apply (r : Fin 24576) (g : Fin 18) : k0_pay4 X (ix2 r g) = exponent (lead (grp X r g)) := by
  rw [pay4_eq, exponents_apply, leads_apply]

theorem pay5_apply (r : Fin 24576) (g : Fin 18) : k0_pay5 X (ix2 r g) = scale (grp X r g) := by
  have e (x : FVec Ideal S24576x18 .f32) (i : S24576x18.Idx) : Idealize.ShloMosaic.exp2 (F := Ideal) x i = Ideal.exp2 (x i) := rfl
  unfold k0_pay5 scale
  rw [e, pay4_apply]

/-- A number scaled and held between the least and the greatest code. -/
theorem clip_apply (v w : FVec Ideal S24576x18x128 .f32) (y : S24576x18x128.Idx) :
    truncf .fp8e5m2 (minimumf (broadcast S24576x18x128 (Scalar.ofBits .f32 0x47600000#32))
        (maximumf (broadcast S24576x18x128 (Scalar.ofBits .f32 0xC7600000#32)) (mulf v w))) bitsLt_fp8e5m2_f32 y
      = min (Ideal.ofBits .f32 0x47600000#32) (max (Ideal.ofBits .f32 0xC7600000#32) (v y * w y)) := by
  show minimumf (F := Ideal) (_ : FVec Ideal S24576x18x128 .f32) _ y = _
  rw [minimumf_apply, maximumf_apply, Ideal.minimumf_def, Ideal.maximumf_def]
  rfl

theorem inverse_apply (x : FVec Ideal S24576x18 .f32) (i : S24576x18.Idx) :
    exp2 (subf (broadcast S24576x18 (Scalar.ofBits .f32 0x00000000#32)) x) i = Ideal.exp2 (0 - x i) := by
  show Ideal.exp2 (Ideal.ofBits .f32 0x00000000#32 - x i) = _
  rw [Ideal.ofBits_zero_f32]

theorem pay6_apply (r : Fin 24576) (g : Fin 18) (k : Fin 128) : k0_pay6 X (ix3 r g k) = code (grp X r g) k := by
  unfold k0_pay6
  refine (clip_apply _ _ _).trans ?_
  rw [spread_lanes, inverse_apply, pay3_apply, pay4_apply]
  rfl

theorem pay7_apply (r : Fin 24576) (o : Fin 2304) : k0_pay7 X (ix2 r o) = wideAt X r o := by
  unfold k0_pay7
  refine (cast_join _ _ r o).trans ?_
  rw [mulf_apply, spread_lanes, Ideal.mulf_def]
  show k0_pay6 X _ * k0_pay5 X _ = _
  rw [pay6_apply, pay5_apply]
  rfl

theorem pay8_apply (a : Fin 120) (b : Fin 128) (g : Fin 18) (k : Fin 128) :
    k0_pay8 W (ix4 a b g k) = W (ix2 ⟨128 * a.val + b.val, by omega⟩ ⟨128 * g.val + k.val, by omega⟩) := by
  unfold k0_pay8
  exact cast_blocks _ _ a b g k

theorem weight_apply (n : Fin 15360) (o : Fin 2304) :
    shapeCast S15360x2304 (mulf (k0_pay8 W) (broadcastTo S120x128x18x128 (shapeCast S120x1x18x1 (k0_pay9 S) shapeCasts_S120x18_S120x1x18x1)
      broadcasts_S120x1x18x1_S120x128x18x128)) shapeCasts_S120x128x18x128_S15360x2304 (ix2 n o) = weightAt W S n o := by
  refine (cast_whole _ _ n o).trans ?_
  rw [mulf_apply, spread_blocks, Ideal.mulf_def, pay8_apply]
  refine congrArg₂ (· * ·) (congrArg W (Cert.KernelIdeal.Body.ix2_congr ?_ ?_)) rfl
  · show 128 * (n.val / 128) + n.val % 128 = n.val; omega
  · show 128 * (o.val / 128) + o.val % 128 = o.val; omega

/-- The reference's gradient of the input is the sum of the products, -/
theorem dx_eq : k0_pay1 (k0_pay7 X) (k0_pay8 W) (k0_pay9 S) = dxAll X W S := by
  funext y
  unfold k0_pay1 dxAll
  have e (A : FVec Ideal S24576x2304 .bf16) (B : FVec Ideal S15360x2304 .bf16) :
      truncf .bf16 (matmul dot_S24576x2304_S15360x2304_S24576x15360_1_1_0_0_n_n none A B (constant S24576x15360 .f32 0x00000000#32))
        bitsLt_bf16_f32 y = ∑ o : Fin 2304, A (ix2 (y 0) o) * B (ix2 (y 1) o) := by
    pointwise
  refine (e _ _).trans (Finset.sum_congr rfl fun o _ => ?_)
  exact congrArg₂ (· * ·) (pay7_apply X (y 0) o) (weight_apply W S (y 1) o)

/-- its codes are the codes, -/
theorem codes_eq : k0_pay2 (k0_pay6 X) = codeAll X := by
  funext y
  rw [← ix2_eta (n0 := 24576) (n1 := 2304) y]
  unfold k0_pay2
  exact (cast_join _ _ (y 0) (y 1)).trans (pay6_apply X (y 0) _ _)

/-- and its scales the scales. -/
theorem scales_eq : k0_pay5 X = scaleAll X := by
  funext y
  rw [← ix2_eta (n0 := 24576) (n1 := 18) y]
  exact pay5_apply X (y 0) (y 1)

/-! ## The reference's arrays after the run -/

section Run

variable (m : (ℓ : Loc nD τ sig) → Buf (Elt Ideal) ℓ) (c : Dev nD)

/-- Every window's block at the one point starts at the array's first entry, -/
theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel

/-- so the one point's blocks are the whole arrays. -/
theorem iblk_0 (t : Fin cfg0.N) : iblk m c 0 t = (V m c main_v0 : Vec Ideal S24576x2304 .bf16) := by
  funext y
  unfold iblk
  refine congrArg (V m c main_v0) (funext fun a => Fin.ext ?_)
  fin_cases a <;> blk_simp [index_0]

theorem iblk_1 (t : Fin cfg0.N) : iblk m c 1 t = (V m c main_arg1 : Vec Ideal S15360x2304 .fp8e4m3) := by
  funext y
  unfold iblk
  refine congrArg (V m c main_arg1) (funext fun a => Fin.ext ?_)
  fin_cases a <;> blk_simp [index_1]

theorem iblk_2 (t : Fin cfg0.N) : iblk m c 2 t = (V m c main_arg2 : Vec Ideal S120x18 .f32) := by
  funext y
  unfold iblk
  refine congrArg (V m c main_arg2) (funext fun a => Fin.ext ?_)
  fin_cases a <;> blk_simp [index_2]

theorem zeros : (![0, 0] : Fin 2 → ℕ) = fun _ => 0 := by decide

/-- What the body leaves, from whole arrays. -/
theorem out_dx : out0_3 X W S = dxAll X W S := by
  unfold out0_3
  rw [View.canon_unit_zero zeros, View.ld_unit_zero zeros, View.ld_unit_zero zeros, View.ld_unit_zero zeros]
  exact dx_eq X W S

theorem out_codes : out0_4 X W S = codeAll X := by
  unfold out0_4
  rw [View.canon_unit_zero zeros, View.ld_unit_zero zeros]
  exact codes_eq X

theorem out_scales : out0_5 X W S = scaleAll X := by
  unfold out0_5
  rw [View.canon_unit_zero zeros, View.ld_unit_zero zeros]
  exact scales_eq X

theorem emb_3 (t : Fin cfg0.N) (y : S24576x15360.Idx) : (win0_3.blk t).view.emb y = y := by
  refine funext fun a => Fin.ext ?_
  fin_cases a <;> blk_simp [index_3]

theorem emb_4 (t : Fin cfg0.N) (y : S24576x2304.Idx) : (win0_4.blk t).view.emb y = y := by
  refine funext fun a => Fin.ext ?_
  fin_cases a <;> blk_simp [index_4]

theorem emb_5 (t : Fin cfg0.N) (y : S24576x18.Idx) : (win0_5.blk t).view.emb y = y := by
  refine funext fun a => Fin.ext ?_
  fin_cases a <;> blk_simp [index_5]

/-- The reference's first result holds the gradient of the input, -/
theorem arr_dx : (dats m 0 c).arrAt 3 cfg0.N = dxAll (V m c main_v0) (V m c main_arg1) (V m c main_arg2) :=
  (dats m 0 c).arrAt_eq_of_covers 3 _ (by decide +kernel) fun t _ y =>
    (cast_eq _ _).trans ((congrFun ((after0_3 m c t).trans (by rw [iblk_0, iblk_1, iblk_2, out_dx])) y).trans
      (congrArg (dxAll (V m c main_v0) (V m c main_arg1) (V m c main_arg2)) (emb_3 t y).symm))

/-- the second the codes, -/
theorem arr_codes : (dats m 0 c).arrAt 4 cfg0.N = codeAll (V m c main_v0) :=
  (dats m 0 c).arrAt_eq_of_covers 4 _ (by decide +kernel) fun t _ y =>
    (cast_eq _ _).trans ((congrFun ((after0_4 m c t).trans (by rw [iblk_0, iblk_1, iblk_2, out_codes])) y).trans
      (congrArg (codeAll (V m c main_v0)) (emb_4 t y).symm))

/-- and the third the scales. -/
theorem arr_scales : (dats m 0 c).arrAt 5 cfg0.N = scaleAll (V m c main_v0) :=
  (dats m 0 c).arrAt_eq_of_covers 5 _ (by decide +kernel) fun t _ y =>
    (cast_eq _ _).trans ((congrFun ((after0_5 m c t).trans (by rw [iblk_0, iblk_1, iblk_2, out_scales])) y).trans
      (congrArg (scaleAll (V m c main_v0)) (emb_5 t y).symm))

end Run

end Cert.Dgrad.Ref

end
-- ==== Proof.Entry.lean ====
/- What both programs start from: the gradient of the output with its two leading axes joined; and what the precondition
   says of its entries. -/
module

public import proofs.«01_k».proof.Proof.RefArrays
public import proofs.«01_k».proof.Proof.Gen.Pre_representable
public import Idealize.ShloMosaic.Lib.ReduceAll

@[expose] public section

set_option maxRecDepth 16384

noncomputable section

namespace Cert.Dgrad

open Idealize.ShloMosaic Idealize.ShloMosaic.TcCoe Idealize.ShloMosaic.Tactic
open Idealize.SL.Sem

/-- The gradient of the output with its two leading axes joined. -/
def joined (x : Vec Ideal Cert.KernelIdeal.S3x8192x2304 .bf16) : Vec Ideal Cert.KernelIdeal.S24576x2304 .bf16 :=
  shapeCast Cert.KernelIdeal.S24576x2304 x Cert.KernelIdeal.Gen.shapeCasts_S3x8192x2304_S24576x2304

/-- The kernel's call finds it, -/
theorem entry_kernel (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0
      = joined (m ((c.tc : Thread Cert.KernelIdeal.nD Cert.KernelIdeal.τ).loc Cert.KernelIdeal.main_arg0)) := by
  unfold_abbrev_sides
  after_results
  rfl

/-- and so does the reference's. -/
theorem entry_reference (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v0
      = joined (m ((c.tc : Thread Cert.ReferenceIdeal.nD Cert.ReferenceIdeal.τ).loc Cert.ReferenceIdeal.main_arg0)) := by
  unfold_abbrev_sides
  after_results
  rfl

/-- A comparison that came out true. -/
theorem of_ole {x y : EReal} (h : Ideal.cmp .ole x y = 1#1) : x ≤ y := by
  by_contra hn
  have : Ideal.cmp .ole x y = 0#1 := by unfold Ideal.cmp; simp [hn]
  rw [this] at h
  exact absurd h (by decide)

theorem of_oeq {x y : EReal} (h : Ideal.cmp .oeq x y = 1#1) : x = y := by
  by_contra hn
  have : Ideal.cmp .oeq x y = 0#1 := by unfold Ideal.cmp; simp [hn]
  rw [this] at h
  exact absurd h (by decide)

instance : Subsingleton Cert.Pre_representable.S_.Idx := ⟨fun a b => funext fun d => d.elim0⟩

/-- Under the precondition every entry of the gradient of the output is a size a bfloat16 has. -/
theorem rep_of_pre (x : FVec Ideal Cert.Pre_representable.S3x8192x2304 .bf16) (w : FVec Ideal Cert.Pre_representable.S15360x2304 .fp8e4m3)
    (s : FVec Ideal Cert.Pre_representable.S120x18 .f32) (h : Cert.Pre_representable.fn (F := Ideal) x w s = fun _ => 1#1)
    (y : Cert.Pre_representable.S3x8192x2304.Idx) : Rep (x y) := by
  have h0 := congrFun h fun d => d.elim0
  unfold Cert.Pre_representable.fn at h0
  have e := Host.reduce_andi_all _ _ _ _ _ h0 y
  have e' : IntOp.ori (Ideal.cmp .ole (max (x y) (-(x y))) (Ideal.ofBits .bf16 0x7F7F#16))
      (Ideal.cmp .oeq (max (x y) (-(x y))) (Ideal.ofBits .bf16 0x7F80#16)) = 1#1 := e
  exact (IntOp.ori_eq_one.1 e').imp of_ole of_oeq

/-- Joining axes keeps that. -/
theorem rep_joined {x : Vec Ideal Cert.KernelIdeal.S3x8192x2304 .bf16} (h : ∀ y, Rep (x y)) (y : Cert.KernelIdeal.S24576x2304.Idx) : Rep (joined x y) :=
  h _

end Cert.Dgrad

end
-- ==== Proof.Results.lean ====
/- The runs of both programs over the extended reals, to the same three results. -/
module

public import proofs.«01_k».proof.Proof.Entry
public import proofs.«01_k».proof.Defs
public import Idealize.ShloMosaic.Lib.Claim

@[expose] public section

set_option maxRecDepth 16384

noncomputable section

namespace Cert.Dgrad

open Idealize.ShloMosaic Idealize.ShloMosaic.TcCoe Idealize.ShloMosaic.Tactic
open Idealize.SL.Sem

/-- The precondition, read at the kernel's entry. -/
theorem rep_entry {m : (ℓ : Loc Cert.KernelIdeal.nD Cert.KernelIdeal.τ Cert.KernelIdeal.sig) → Buf (Elt Ideal) ℓ}
    (h : Cert.Pre_KernelIdeal_representable m) (c : Dev Cert.KernelIdeal.nD) (y : Cert.KernelIdeal.S24576x2304.Idx) :
    Rep ((Cert.KernelIdeal.Gen.V m c Cert.KernelIdeal.main_v0 : Vec Ideal Cert.KernelIdeal.S24576x2304 .bf16) y) := by
  rw [entry_kernel]
  exact rep_joined (rep_of_pre _ _ _ (h c)) y

/-- The kernel and the reference end with the same three results: the gradient of the input, the codes and the scales. -/
theorem same_results : Cert.algebraic_KernelIdeal_ReferenceIdeal_pre_representable := by
  intro m g m' g' hpre hagree
  refine ⟨fun c => dxAll (joined (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => codeAll (joined (m ((c.tc : Thread Cert.KernelIdeal.nD Cert.KernelIdeal.τ).loc Cert.KernelIdeal.main_arg0))),
    fun c => scaleAll (joined (m ((c.tc : Thread Cert.KernelIdeal.nD Cert.KernelIdeal.τ).loc Cert.KernelIdeal.main_arg0))), ?_, ?_⟩
  · refine (θ_run _ _ _).mono (fun r h c => ?_)
      (θ_run_and (Cert.KernelIdeal.Body.run_quiescent m g) (Cert.KernelIdeal.Body.frame m g))
    have hX := rep_entry hpre c
    have e0 := (h.1.1.out_eq c 3).trans (arr_dx m c hX)
    have e1 := (h.1.1.out_eq c 4).trans (arr_codes m c hX)
    have e2 := (h.1.1.out_eq c 5).trans (arr_scales m c hX)
    rw [entry_kernel] at e0 e1 e2
    rw [Cert.KernelIdeal.Gen.V_main_arg1, Cert.KernelIdeal.Gen.V_main_arg2] at e0
    exact ⟨e0, e1, e2, h.2.1 c⟩
  · refine (θ_run _ _ _).mono (fun r h c => ?_)
      (θ_run_and (Cert.ReferenceIdeal.Gen.run_main m' g') (Cert.ReferenceIdeal.Gen.frame m' g'))
    have e0 := (h.1.out_eq c 3).trans (Ref.arr_dx m' c)
    have e1 := (h.1.out_eq c 4).trans (Ref.arr_codes m' c)
    have e2 := (h.1.out_eq c 5).trans (Ref.arr_scales m' c)
    rw [entry_reference, (hagree c).1] at e0 e1 e2
    rw [Cert.ReferenceIdeal.Gen.V_main_arg1, Cert.ReferenceIdeal.Gen.V_main_arg2, (hagree c).2.1, (hagree c).2.2] at e0
    exact ⟨e0, e1, e2, h.2.1 c⟩

end Cert.Dgrad

end
-- ==== Proof.SameText.lean ====
/- The kernel over machine words. Its text is the ideal kernel's, constant for constant, and what the ideal kernel's run was
   proved of holds at any reading of floats: so the kernel's frame is that run, read at machine words. -/
module

public import proofs.«01_k».proof.Proof.Launched
public import proofs.«01_k».proof.Proof.Gen.Kernel
public import proofs.«01_k».proof.Defs

@[expose] public section

set_option maxRecDepth 16384

noncomputable section

namespace Cert.Dgrad

open Idealize.ShloMosaic Idealize.ShloMosaic.TcCoe Idealize.ShloMosaic.Tactic
open Idealize.SL.Sem

/-- The ideal kernel's frame at machine words. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The kernel's frame says the same, by unfolding the two texts side by side. -/
theorem frame_same : Cert.quiescent_Kernel = FrameAtBits := by
  sl_kernel_rfl

/-- The kernel terminates, its arguments end as they began and every semaphore counter at zero. -/
theorem frame_kernel : Cert.quiescent_Kernel :=
  frame_same ▸ fun m g _ => Cert.KernelIdeal.Body.frame m g

end Cert.Dgrad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_representable
public import proofs.«01_k».proof.Proof.Results
public import proofs.«01_k».proof.Proof.SameText
public import Idealize.ShloMosaic.Adequacy
public import Idealize.ShloMosaic.Init

@[expose] public section

noncomputable section

namespace Cert.Proof

open Idealize.ShloMosaic Idealize.SL.Sem Cert.Kernel

/-- Every claim, in the order `Cert.Claim` lists them. -/
theorem claim : Cert.Claim :=
  ⟨Cert.Kernel.Gen.facts, Cert.KernelIdeal.Gen.facts, Cert.ReferenceIdeal.Gen.facts, Cert.Reference.Gen.facts, Cert.Pre_representable.Gen.facts,
    Cert.Dgrad.frame_kernel,
    fun m g _ => Cert.KernelIdeal.Body.frame m g,
    fun m g _ => Cert.KernelIdeal.Body.frame m g,
    fun m g _ => Cert.ReferenceIdeal.Gen.frame m g,
    fun m g _ => Cert.ReferenceIdeal.Gen.frame m g,
    fun m g _ => Cert.Reference.Gen.frame m g,
    trivial,
    IdealRules.named_const.statement Cert.ReferenceIdeal.κ "ln2" .f32 0x3F317218#32 ((Real.log 2 : ℝ) : EReal) rfl,
    Cert.Dgrad.same_results⟩

end Cert.Proof

end
